-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)
  ∧ IdealRules.named_const.Statement Cert.KernelIdeal.κ "inv_n" .f32 0x38D1B717#32 ((1 / 10000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x1000 : Shape := ⟨2, ![10000, 1000]⟩
abbrev S1000x128 : Shape := ⟨2, ![1000, 128]⟩
abbrev S10000 : Shape := ⟨1, ![10000]⟩
abbrev S1000 : Shape := ⟨1, ![1000]⟩
abbrev S128x128 : Shape := ⟨2, ![128, 128]⟩
abbrev S1000x1 : Shape := ⟨2, ![1000, 1]⟩
abbrev S10000x1 : Shape := ⟨2, ![10000, 1]⟩
abbrev S1x128 : Shape := ⟨2, ![1, 128]⟩
abbrev S1000x1000 : Shape := ⟨2, ![1000, 1000]⟩
abbrev S128x1000 : Shape := ⟨2, ![128, 1000]⟩
abbrev S128 : Shape := ⟨1, ![128]⟩
abbrev S1 : Shape := ⟨1, ![1]⟩
abbrev S1x1 : Shape := ⟨2, ![1, 1]⟩

abbrev nBuf : Space → Nat
  | .hbm => 19
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x1000, .f32⟩
  | .hbm, ⟨2, _⟩ => ⟨S1000x128, .f32⟩
  | .hbm, ⟨3, _⟩ => ⟨S10000x1000, .f32⟩
  | .hbm, ⟨4, _⟩ => ⟨S10000, .f32⟩
  | .hbm, ⟨5, _⟩ => ⟨S1000, .f32⟩
  | .hbm, ⟨6, _⟩ => ⟨S10000, .f32⟩
  | .hbm, ⟨7, _⟩ => ⟨S10000, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S1000x1, .f32⟩
  | .hbm, ⟨14, _⟩ => ⟨S10000x1, .f32⟩
  | .hbm, ⟨15, _⟩ => ⟨S10000x1, .f32⟩
  | .hbm, ⟨16, _⟩ => ⟨S10000x1, .f32⟩
  | .hbm, ⟨17, _⟩ => ⟨S1x128, .f32⟩
  | .hbm, ⟨18, _⟩ => ⟨S128, .f32⟩
  | .local _ .vmem, ⟨0, _⟩ => ⟨S1000x128, .f32⟩
  | .local _ .vmem, ⟨1, _⟩ => ⟨S1000x128, .f32⟩
  | .local _ .vmem, ⟨2, _⟩ => ⟨S1000x1000, .f32⟩
  | .local _ .vmem, ⟨3, _⟩ => ⟨S1000x1000, .f32⟩
  | .local _ .vmem, ⟨4, _⟩ => ⟨S1000x1000, .f32⟩
  | .local _ .vmem, ⟨5, _⟩ => ⟨S1000x1000, .f32⟩
  | .local _ .vmem, ⟨6, _⟩ => ⟨S1000x1, .f32⟩
  | .local _ .vmem, ⟨7, _⟩ => ⟨S1000x1, .f32⟩
  | .local _ .vmem, ⟨8, _⟩ => ⟨S1000x1, .f32⟩
  | .local _ .vmem, ⟨9, _⟩ => ⟨S10000x1, .f32⟩
  | .local _ .vmem, ⟨10, _⟩ => ⟨S10000x1, .f32⟩
  | .local _ .vmem, ⟨11, _⟩ => ⟨S1000x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S128x1000, .f32⟩
  | .local _ .vmem, ⟨21, _⟩ => ⟨S1000x128, .f32⟩
  | .local _ .vmem, ⟨22, _⟩ => ⟨S10000x128, .f32⟩
  | .local _ .vmem, ⟨23, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨2, ![3, 10], ![false, false]⟩

def k0_cond6 (i : grid0.Coords) : BitVec 1 :=
  let arg0 : BitVec 32 := BitVec.ofNat 32 (i 0).val
  let c2_i32_10 : BitVec 32 := 2#32
  let v21 : BitVec 1 := Scalar.cmpi .eq arg0 c2_i32_10
  let v22 : BitVec 32 := Scalar.extui v21
  let c0_i32_11 : BitVec 32 := 0#32
  let v23 : BitVec 1 := Scalar.cmpi .ne v22 c0_i32_11
  v23

def k0_off1 (i : grid0.Coords) : Fin 2 → Nat :=
  let arg1 : BitVec 32 := BitVec.ofNat 32 (i 1).val
  let c1000_i32 : BitVec 32 := 1000#32
  let v34 : BitVec 32 := Scalar.muli arg1 c1000_i32
  let v35 : Index := Scalar.indexCast v34
  let c0_18 : Index := 0#32
  ![v35.toNat, 0]
def k0_cond7 (i : grid0.Coords) : BitVec 1 :=
  let arg0 : BitVec 32 := BitVec.ofNat 32 (i 0).val
  let c2_i32_12 : BitVec 32 := 2#32
  let v24 : BitVec 1 := Scalar.cmpi .eq arg0 c2_i32_12
  let arg1 : BitVec 32 := BitVec.ofNat 32 (i 1).val
  let c9_i32 : BitVec 32 := 9#32
  let v25 : BitVec 1 := Scalar.cmpi .eq arg1 c9_i32
  let v26 : BitVec 1 := Scalar.andi v24 v25
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sle arg0 c1_i32
  let c9_i32 : BitVec 32 := 9#32
  let v1 : BitVec 32 := Scalar.select v0 arg1 c9_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c9_i32 : BitVec 32 := 9#32
  let v1 : BitVec 32 := Scalar.select v0 arg1 c9_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c9_i32 : BitVec 32 := 9#32
  let v1 : BitVec 32 := Scalar.select v0 arg1 c9_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1000x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S10000x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S10000x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== KernelIdeal.lean ====
variable {F : FTy → Type} [FloatOps F] [Named F]
def κ : String → Option EReal := fun
  | "inv_n" => some ((1 / 10000 : ℝ) : EReal)
  | "inv_sqrt_d" => some (((Real.sqrt 128)⁻¹ : ℝ) : EReal)
  | _ => none
-- ==== ReferenceIdeal.lean ====
abbrev S10000x128 : Shape := ⟨2, ![10000, 128]⟩
abbrev S10000x1000 : Shape := ⟨2, ![10000, 1000]⟩
abbrev S1000x128 : Shape := ⟨2, ![1000, 128]⟩
abbrev S10000 : Shape := ⟨1, ![10000]⟩
abbrev S1000 : Shape := ⟨1, ![1000]⟩
abbrev S128x128 : Shape := ⟨2, ![128, 128]⟩
abbrev S1000x10000 : Shape := ⟨2, ![1000, 10000]⟩
abbrev S1000x1 : Shape := ⟨2, ![1000, 1]⟩
abbrev S10000x1 : Shape := ⟨2, ![10000, 1]⟩
abbrev S_ : Shape := ⟨0, ![]⟩
abbrev S128x1000 : Shape := ⟨2, ![128, 1000]⟩
abbrev S128 : Shape := ⟨1, ![128]⟩
abbrev S1 : Shape := ⟨1, ![1]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x1000, .f32⟩
  | .hbm, ⟨2, _⟩ => ⟨S1000x128, .f32⟩
  | .hbm, ⟨3, _⟩ => ⟨S10000x1000, .f32⟩
  | .hbm, ⟨4, _⟩ => ⟨S10000, .f32⟩
  | .hbm, ⟨5, _⟩ => ⟨S1000, .f32⟩
  | .hbm, ⟨6, _⟩ => ⟨S10000, .f32⟩
  | .hbm, ⟨7, _⟩ => ⟨S10000, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S10000x128, .f32⟩
  | .hbm, ⟨14, _⟩ => ⟨S1000x10000, .f32⟩
  | .hbm, ⟨15, _⟩ => ⟨S1000x128, .f32⟩
  | .hbm, ⟨16, _⟩ => ⟨S1000x1, .f32⟩
  | .hbm, ⟨17, _⟩ => ⟨S1000x128, .f32⟩
  | .hbm, ⟨18, _⟩ => ⟨S1000x128, .f32⟩
  | .hbm, ⟨19, _⟩ => ⟨S10000x128, .f32⟩
  | .hbm, ⟨20, _⟩ => ⟨S10000x1, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S128x1000, .f32⟩
  | .hbm, ⟨28, _⟩ => ⟨S10000x1000, .f32⟩
  | .hbm, ⟨29, _⟩ => ⟨S_, .f32⟩
  | .hbm, ⟨30, _⟩ => ⟨S_, .f32⟩
  | .hbm, ⟨31, _⟩ => ⟨S10000x1000, .f32⟩
  | .hbm, ⟨32, _⟩ => ⟨S10000x1000, .f32⟩
  | .hbm, ⟨33, _⟩ => ⟨S_, .f32⟩
  | .hbm, ⟨34, _⟩ => ⟨S10000, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S10000x1, .f32⟩
  | .hbm, ⟨39, _⟩ => ⟨S10000x1000, .f32⟩
  | .hbm, ⟨40, _⟩ => ⟨S10000x1000, .f32⟩
  | .hbm, ⟨41, _⟩ => ⟨S10000x1000, .f32⟩
  | .hbm, ⟨42, _⟩ => ⟨S_, .f32⟩
  | .hbm, ⟨43, _⟩ => ⟨S10000, .f32⟩
  | .hbm, ⟨44, _⟩ => ⟨S10000x1, .f32⟩
  | .hbm, ⟨45, _⟩ => ⟨S10000x1000, .f32⟩
  | .hbm, ⟨46, _⟩ => ⟨S10000x1000, .f32⟩
  | .hbm, ⟨47, _⟩ => ⟨S10000x1000, .f32⟩
  | .hbm, ⟨48, _⟩ => ⟨S1000x10000, .f32⟩
  | .hbm, ⟨49, _⟩ => ⟨S1000x128, .f32⟩
  | .hbm, ⟨50, _⟩ => ⟨S1000x128, .f32⟩
  | .hbm, ⟨51, _⟩ => ⟨S1000x128, .f32⟩
  | .hbm, ⟨52, _⟩ => ⟨S1000x128, .f32⟩
  | .hbm, ⟨53, _⟩ => ⟨S10000x128, .f32⟩
  | .hbm, ⟨54, _⟩ => ⟨S_, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S10000, .f32⟩
  | .hbm, ⟨64, _⟩ => ⟨S10000, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S10000, .f32⟩
  | .hbm, ⟨71, _⟩ => ⟨S10000, .f32⟩
  | .hbm, ⟨72, _⟩ => ⟨S10000, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S10000, .f32⟩
  | .hbm, ⟨77, _⟩ => ⟨S10000, .f32⟩
  | .hbm, ⟨78, _⟩ => ⟨S10000, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1, .f32⟩
  | .hbm, ⟨84, _⟩ => ⟨S10000, .f32⟩
  | .hbm, ⟨85, _⟩ => ⟨S10000, .f32⟩
  | .hbm, ⟨86, _⟩ => ⟨S10000, .f32⟩
  | .hbm, ⟨87, _⟩ => ⟨S_, .f32⟩
  | .hbm, ⟨88, _⟩ => ⟨S_, .f32⟩
  | .hbm, ⟨89, _⟩ => ⟨S1, .f32⟩
  | .hbm, ⟨90, _⟩ => ⟨S10000, .f32⟩
  | .hbm, ⟨91, _⟩ => ⟨S10000, .f32⟩
  | .hbm, ⟨92, _⟩ => ⟨S128, .f32⟩
  | .hbm, ⟨93, _⟩ => ⟨S128, .f32⟩
  | .hbm, ⟨94, _⟩ => ⟨S128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Proof.Mega.State.lean ====
/- What one grid point of the kernel does to the scratch buffers, as a function of the blocks it reads. -/
module

public import proofs.«01_k».proof.Proof.Gen.KernelIdeal.Frame
public import proofs.«01_k».proof.Proof.Gen.KernelIdeal.Skeleton
public import Idealize.ShloMosaic.Lib.VecWindow
public import Idealize.ShloMosaic.Lib.WritesUnit

@[expose] public section

set_option maxRecDepth 16384

noncomputable section

namespace Cert.Mega

open Idealize.ShloMosaic Idealize.ShloMosaic.TcCoe
open Cert.KernelIdeal Cert.KernelIdeal.Gen

variable {F : FTy → Type} [FloatOps F] [Named F]

/-- The blocks of the thirteen staged operands at one grid point. -/
structure In (F : FTy → Type) where
  x : Vec F S1000x128 .f32
  h : Vec F S1000x1000 .f32
  mm : Vec F S1000x1000 .f32
  dv : Vec F S1000x1 .f32
  de : Vec F S1000x1 .f32
  ei : Vec F S10000x1 .f32
  er : Vec F S10000x1 .f32
  kk : Vec F S1000x128 .f32
  w1 : Vec F S128x128 .f32
  wa : Vec F S128x128 .f32
  we : Vec F S128x128 .f32
  w2 : Vec F S128x128 .f32
  wp : Vec F S128x128 .f32

/-- The contents of the six scratch buffers. -/
@[ext] structure St (F : FTy → Type) where
  em : Vec F S1000x128 .f32
  ef : Vec F S1000x128 .f32
  kt : Vec F S128x1000 .f32
  g : Vec F S1000x128 .f32
  x2 : Vec F S10000x128 .f32
  ca : Vec F S1x128 .f32

/-! ## The seven conditions of the body -/

/-- Phase 0, row block 0. -/
def c0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Phase 0. -/
def c1 (i : grid0.Coords) : Prop :=
  (Scalar.cmpi .ne (Scalar.extui (Scalar.cmpi .eq (BitVec.ofNat 32 (i 0).val) 0#32)) 0#32) = 1#1
/-- Phase 1, row block 0. -/
def c2 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- Phase 1. -/
def c3 (i : grid0.Coords) : Prop :=
  (Scalar.cmpi .ne (Scalar.extui (Scalar.cmpi .eq (BitVec.ofNat 32 (i 0).val) 1#32)) 0#32) = 1#1
/-- Phase 2, row block 0. -/
def c4 (i : grid0.Coords) : Prop :=
  (Scalar.cmpi .ne (Scalar.extui (Scalar.andi (Scalar.cmpi .eq (BitVec.ofNat 32 (i 0).val) 2#32) (Scalar.cmpi .eq (BitVec.ofNat 32 (i 1).val) 0#32))) 0#32) = 1#1
/-- Phase 2. -/
def c5 (i : grid0.Coords) : Prop := k0_cond6 i = 1#1
/-- Phase 2, the last row block. -/
def c6 (i : grid0.Coords) : Prop := k0_cond7 i = 1#1

/-- The coordinates of a point, by arithmetic. -/
theorem coords_val (t : Fin grid0.N) :
    (grid0.coords t 0).val = t.val / 10 ∧ (grid0.coords t 1).val = t.val % 10 := by
  have ht : t.val < 30 := Nat.lt_of_lt_of_eq t.isLt N_0
  have e0 : (grid0.coords t 0).val = t.val / 10 % 3 := Pipeline.Grid.coords_val t 0 (by decide) rfl
  have e1 : (grid0.coords t 1).val = t.val / 1 % 10 := Pipeline.Grid.coords_val t 1 (by decide) rfl
  constructor
  · rw [e0]; omega
  · rw [e1, Nat.div_one]

/-- Each condition, at point `t`, as a statement about the number `t`. -/
theorem conds : ∀ t : Fin grid0.N,
    (c0 (grid0.coords t) ↔ t.val = 0) ∧ (c1 (grid0.coords t) ↔ t.val < 10) ∧ (c2 (grid0.coords t) ↔ t.val = 10)
    ∧ (c3 (grid0.coords t) ↔ (10 ≤ t.val ∧ t.val < 20)) ∧ (c4 (grid0.coords t) ↔ t.val = 20)
    ∧ (c5 (grid0.coords t) ↔ 20 ≤ t.val) ∧ (c6 (grid0.coords t) ↔ t.val = 29) := by
  unfold c0 c1 c2 c3 c4 c5 c6; decide +kernel

/-! ## What a point does to the scratch -/

/-- The first point's initialisation: the three accumulators at zero and the transposed keys. -/
def init (X : In F) (S : St F) : St F :=
  { S with em := k0_pay1, ef := k0_pay2, ca := k0_pay3, kt := k0_pay4 X.kk }
/-- Phase 0: the hyperedge features gather one row block. -/
def gather (X : In F) (S : St F) : St F := { S with em := k0_pay5 X.x X.w1 S.em X.h }
/-- The start of phase 1: the gathered features are scaled. -/
def scale (X : In F) (S : St F) : St F := { S with em := k0_pay6 S.em X.de }
/-- Phase 1: the second accumulator gathers one row block. -/
def attend (X : In F) (S : St F) : St F :=
  { S with ef := k0_pay7 X.h S.em X.dv X.wa S.kt X.mm S.ef }
/-- The start of phase 2: the mixed features. -/
def mix (X : In F) (S : St F) : St F := { S with g := k0_pay8 S.ef X.kk X.we X.w2 }
/-- Phase 2: one row block of the second layer, and its column sum. -/
def spread (i : grid0.Coords) (X : In F) (S : St F) : St F :=
  { S with
    x2 := VecWindow.put S.x2 (k0_off1 i) S1000x128.size (k0_pay10 X.mm S.g)
    ca := k0_pay11 X.mm S.g S.ca }
/-- The last point's result: the pooled row. -/
def pooled (X : In F) (S : St F) : Vec F S1x128 .f32 := k0_pay12 S.x2 S.ca X.wp X.ei X.er

open Classical in
/-- The scratch after one point. -/
def step (i : grid0.Coords) (X : In F) (S : St F) : St F :=
  let S := if c0 i then init X S else S
  let S := if c1 i then gather X S else S
  let S := if c2 i then scale X S else S
  let S := if c3 i then attend X S else S
  let S := if c4 i then mix X S else S
  if c5 i then spread i X S else S

open Classical in
/-- The result's staging buffer after one point. -/
def outStep (i : grid0.Coords) (X : In F) (S : St F) (d : Vec F S1x128 .f32) : Vec F S1x128 .f32 :=
  if c6 i then pooled X S else d

end Cert.Mega

end
-- ==== Proof.Mega.Body.lean ====
/- The body's triple: what one run of the kernel body does to the buffers it is called on. -/
module

public import proofs.«01_k».proof.Proof.Mega.State
public import Idealize.ShloMosaic.Lib.Tactic.Stretches

@[expose] public section

set_option maxRecDepth 16384

noncomputable section

namespace Cert.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The seven ways the conditions fall at the points of the grid. -/
def Case (i : grid0.Coords) : Prop :=
  (c0 i ∧ c1 i ∧ ¬c2 i ∧ ¬c3 i ∧ ¬c4 i ∧ ¬c5 i ∧ ¬c6 i) ∨ (¬c0 i ∧ c1 i ∧ ¬c2 i ∧ ¬c3 i ∧ ¬c4 i ∧ ¬c5 i ∧ ¬c6 i)
  ∨ (¬c0 i ∧ ¬c1 i ∧ c2 i ∧ c3 i ∧ ¬c4 i ∧ ¬c5 i ∧ ¬c6 i) ∨ (¬c0 i ∧ ¬c1 i ∧ ¬c2 i ∧ c3 i ∧ ¬c4 i ∧ ¬c5 i ∧ ¬c6 i)
  ∨ (¬c0 i ∧ ¬c1 i ∧ ¬c2 i ∧ ¬c3 i ∧ c4 i ∧ c5 i ∧ ¬c6 i) ∨ (¬c0 i ∧ ¬c1 i ∧ ¬c2 i ∧ ¬c3 i ∧ ¬c4 i ∧ c5 i ∧ ¬c6 i)
  ∨ (¬c0 i ∧ ¬c1 i ∧ ¬c2 i ∧ ¬c3 i ∧ ¬c4 i ∧ c5 i ∧ c6 i)

/-- Every point of the grid is one of the seven. -/
theorem case_of (t : Fin grid0.N) : Case (grid0.coords t) := by
  have hN : t.val < 30 := Nat.lt_of_lt_of_eq t.isLt N_0
  obtain ⟨h0, h1, h2, h3, h4, h5, h6⟩ := conds t
  simp only [Case, h0, h1, h2, h3, h4, h5, h6]
  omega

section Whole

variable {sg : RefSig} {κ' : Kind} {sp : Space} {e : EltTy} {Val : EltTy → Type} {a b : ℕ}

/-- A load of a whole rank-2 buffer reads its contents. -/
theorem readAt_whole (v : View sg κ' sp (⟨2, ![a, b]⟩ : Shape) e) (f : v.ty.Contents Val)
    (inb : ∀ k : Fin 2, (![0, 0] : Fin 2 → ℕ) k + (![a, b] : Fin 2 → ℕ) k ≤ (![a, b] : Fin 2 → ℕ) k) :
    v.readAt Val (Rect.unit (s := ⟨2, ![a, b]⟩) ![0, 0] ![a, b] inb).toLoadRect f = v.read Val f :=
  View.readAt_full v f inb

/-- A store over a whole rank-2 buffer leaves its payload. -/
theorem read_stored (v : View sg κ' sp (⟨2, ![a, b]⟩ : Shape) e) (f : v.ty.Contents Val)
    (inb : ∀ k : Fin 2, (![0, 0] : Fin 2 → ℕ) k + (![a, b] : Fin 2 → ℕ) k ≤ (![a, b] : Fin 2 → ℕ) k)
    (w : (⟨2, ![a, b]⟩ : Shape).Idx → Val e) (L : List (View.Piece Val (⟨2, ![a, b]⟩ : Shape) e)) :
    v.read Val (v.writes Val f (⟨Rect.unit (s := ⟨2, ![a, b]⟩) ![0, 0] ![a, b] inb, w⟩ :: L)) = w :=
  View.read_writes_full v f inb w L

/-- A load of a whole rank-2 buffer after a store over the whole of it reads the payload. -/
theorem readCov_whole [∀ e, Nonempty (Val e)] (v : View sg κ' sp (⟨2, ![a, b]⟩ : Shape) e)
    (inb inb' : ∀ k : Fin 2, (![0, 0] : Fin 2 → ℕ) k + (![a, b] : Fin 2 → ℕ) k ≤ (![a, b] : Fin 2 → ℕ) k)
    (w : (⟨2, ![a, b]⟩ : Shape).Idx → Val e) (L : List (View.Piece Val (⟨2, ![a, b]⟩ : Shape) e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

/-- A window over the whole rank-2 buffer replaces its contents. -/
theorem put_whole {α : Type} (x w : (⟨2, ![a, b]⟩ : Shape).Idx → α) :
    VecWindow.put (s := (⟨2, ![a, b]⟩ : Shape)) x ![0, 0] ![a, b] w = w := by
  funext y
  have h : ∀ k : Fin 2, (![0, 0] : Fin 2 → ℕ) k ≤ (y k).val ∧ (y k).val < (![0, 0] : Fin 2 → ℕ) k + (![a, b] : Fin 2 → ℕ) k := fun k => by
    have := (y k).isLt
    match k with
    | ⟨0, _⟩ => exact ⟨Nat.zero_le _, by simpa using this⟩
    | ⟨1, _⟩ => exact ⟨Nat.zero_le _, by simpa using this⟩
  refine (dif_pos h).trans (congrArg w ?_)
  funext k
  refine Fin.ext ?_
  match k with
  | ⟨0, _⟩ => rfl
  | ⟨1, _⟩ => rfl

end Whole

section Run

variable (c : Dev nD) (i : grid0.Coords)
  (arg2 : Memref sig .tc .vmem S1000x128 .f32) (harg2 : arg2.IsWhole) (arg3 : Memref sig .tc .vmem S1000x1000 .f32) (harg3 : arg3.IsWhole)
  (arg4 : Memref sig .tc .vmem S1000x1000 .f32) (harg4 : arg4.IsWhole) (arg5 : Memref sig .tc .vmem S1000x1 .f32) (harg5 : arg5.IsWhole)
  (arg6 : Memref sig .tc .vmem S1000x1 .f32) (harg6 : arg6.IsWhole) (arg7 : Memref sig .tc .vmem S10000x1 .f32) (harg7 : arg7.IsWhole)
  (arg8 : Memref sig .tc .vmem S10000x1 .f32) (harg8 : arg8.IsWhole) (arg9 : Memref sig .tc .vmem S1000x128 .f32) (harg9 : arg9.IsWhole)
  (arg10 : Memref sig .tc .vmem S128x128 .f32) (harg10 : arg10.IsWhole) (arg11 : Memref sig .tc .vmem S128x128 .f32) (harg11 : arg11.IsWhole)
  (arg12 : Memref sig .tc .vmem S128x128 .f32) (harg12 : arg12.IsWhole) (arg13 : Memref sig .tc .vmem S128x128 .f32) (harg13 : arg13.IsWhole)
  (arg14 : Memref sig .tc .vmem S128x128 .f32) (harg14 : arg14.IsWhole) (arg15 : Memref sig .tc .vmem S1x128 .f32) (harg15 : arg15.IsWhole)
  (arg16 : Memref sig .tc .vmem S1000x128 .f32) (harg16 : arg16.IsWhole) (arg17 : Memref sig .tc .vmem S1000x128 .f32) (harg17 : arg17.IsWhole)
  (arg18 : Memref sig .tc .vmem S128x1000 .f32) (harg18 : arg18.IsWhole) (arg19 : Memref sig .tc .vmem S1000x128 .f32) (harg19 : arg19.IsWhole)
  (arg20 : Memref sig .tc .vmem S10000x128 .f32) (harg20 : arg20.IsWhole) (arg21 : Memref sig .tc .vmem S1x128 .f32) (harg21 : arg21.IsWhole)

/-- The thirteen input buffers at given blocks. -/
def insAt (X : In F) : sProp 𝕄 :=
  iprop(owns (c : Thread nD τ) arg2 fullShare X.x ∗ owns (c : Thread nD τ) arg3 fullShare X.h ∗ owns (c : Thread nD τ) arg4 fullShare X.mm
    ∗ owns (c : Thread nD τ) arg5 fullShare X.dv ∗ owns (c : Thread nD τ) arg6 fullShare X.de ∗ owns (c : Thread nD τ) arg7 fullShare X.ei
    ∗ owns (c : Thread nD τ) arg8 fullShare X.er ∗ owns (c : Thread nD τ) arg9 fullShare X.kk ∗ owns (c : Thread nD τ) arg10 fullShare X.w1
    ∗ owns (c : Thread nD τ) arg11 fullShare X.wa ∗ owns (c : Thread nD τ) arg12 fullShare X.we ∗ owns (c : Thread nD τ) arg13 fullShare X.w2
    ∗ owns (c : Thread nD τ) arg14 fullShare X.wp)

/-- The six scratch buffers at given contents. -/
def scratchAt (S : St F) : sProp 𝕄 :=
  iprop(owns (c : Thread nD τ) arg16 fullShare S.em ∗ owns (c : Thread nD τ) arg17 fullShare S.ef ∗ owns (c : Thread nD τ) arg18 fullShare S.kt
    ∗ owns (c : Thread nD τ) arg19 fullShare S.g ∗ owns (c : Thread nD τ) arg20 fullShare S.x2 ∗ owns (c : Thread nD τ) arg21 fullShare S.ca)

set_option maxHeartbeats 8000000 in
/-- The body, from whole buffers: the inputs are left as they were, the scratch moves by `step`, the result's buffer by `outStep`. -/
theorem body_run (hcase : Case i) (X : In F) (d : Vec F S1x128 .f32) (S : St F) (E : Set ℕ) (K : PUnit → sProp 𝕄) :
    iprop(insAt c arg2 arg3 arg4 arg5 arg6 arg7 arg8 arg9 arg10 arg11 arg12 arg13 arg14 X
        ∗ owns (c : Thread nD τ) arg15 fullShare d ∗ scratchAt c arg16 arg17 arg18 arg19 arg20 arg21 S
        ∗ (iprop(insAt c arg2 arg3 arg4 arg5 arg6 arg7 arg8 arg9 arg10 arg11 arg12 arg13 arg14 X
            ∗ owns (c : Thread nD τ) arg15 fullShare (outStep i X (step i X S) d)
            ∗ scratchAt c arg16 arg17 arg18 arg19 arg20 arg21 (step i X S)) -∗ K ⟨⟩))
      ⊢ wp frame (wpE (defs₀ (F := F)) Variants.none c none) E (cc0__mega_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mega_body_eq_skeleton]; unfold cc0__mega_body_skel
  unfold insAt scratchAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain ⟨hc0, hc1, hc2, hc3, hc4, hc5, hc6⟩ | ⟨hc0, hc1, hc2, hc3, hc4, hc5, hc6⟩ | ⟨hc0, hc1, hc2, hc3, hc4, hc5, hc6⟩ | ⟨hc0, hc1, hc2, hc3, hc4, hc5, hc6⟩ | ⟨hc0, hc1, hc2, hc3, hc4, hc5, hc6⟩ | ⟨hc0, hc1, hc2, hc3, hc4, hc5, hc6⟩ | ⟨hc0, hc1, hc2, hc3, hc4, hc5, hc6⟩ := hcase
  all_goals
    have k0 := hc0; have k1 := hc1; have k2 := hc2; have k3 := hc3; have k4 := hc4; have k5 := hc5; have k6 := hc6
    unfold c0 at k0; unfold c1 at k1; unfold c2 at k2; unfold c3 at k3; unfold c4 at k4; unfold c5 at k5; unfold c6 at k6
    sl_exec (disch := first | sl_exact k0 | sl_exact k1 | sl_exact k2 | sl_exact k3 | sl_exact k4 | sl_exact k5 | sl_exact k6)
    sl_step
    iapply Hk
    isplitl [H0 H1 H2 H3 H4 H5 H6 H7 H8 H9 H10 H11 H12]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _; isplitr; · ipureintro; exact hf8
        iexact H8
      isplitl [H9]
      · iexists _; isplitr; · ipureintro; exact hf9
        iexact H9
      isplitl [H10]
      · iexists _; isplitr; · ipureintro; exact hf10
        iexact H10
      isplitl [H11]
      · iexists _; isplitr; · ipureintro; exact hf11
        iexact H11
      iexists _; isplitr; · ipureintro; exact hf12
      iexact H12
    isplitl [H13]
    · iexists _; isplitr; swap; · iexact H13
      ipureintro; try sl_open_run
      simp only [step, outStep, hc0, hc1, hc2, hc3, hc4, hc5, hc6, if_true, if_false, init, gather, scale, attend, mix, spread, pooled, read_stored, put_whole, readAt_whole, readCov_whole, View.read_writes_cons_put _ _ _ _ _ rfl, View.writes_nil, hf0, hf1, hf2, hf3, hf4, hf5, hf6, hf7, hf8, hf9, hf10, hf11, hf12, hf13, hfs0, hfs1, hfs2, hfs3, hfs4, hfs5]
    isplitl [HS0]
    · iexists _; isplitr; swap; · iexact HS0
      ipureintro; try sl_open_run
      simp only [step, outStep, hc0, hc1, hc2, hc3, hc4, hc5, hc6, if_true, if_false, init, gather, scale, attend, mix, spread, pooled, read_stored, put_whole, readAt_whole, readCov_whole, View.read_writes_cons_put _ _ _ _ _ rfl, View.writes_nil, hf0, hf1, hf2, hf3, hf4, hf5, hf6, hf7, hf8, hf9, hf10, hf11, hf12, hf13, hfs0, hfs1, hfs2, hfs3, hfs4, hfs5]
    isplitl [HS1]
    · iexists _; isplitr; swap; · iexact HS1
      ipureintro; try sl_open_run
      simp only [step, outStep, hc0, hc1, hc2, hc3, hc4, hc5, hc6, if_true, if_false, init, gather, scale, attend, mix, spread, pooled, read_stored, put_whole, readAt_whole, readCov_whole, View.read_writes_cons_put _ _ _ _ _ rfl, View.writes_nil, hf0, hf1, hf2, hf3, hf4, hf5, hf6, hf7, hf8, hf9, hf10, hf11, hf12, hf13, hfs0, hfs1, hfs2, hfs3, hfs4, hfs5]
    isplitl [HS2]
    · iexists _; isplitr; swap; · iexact HS2
      ipureintro; try sl_open_run
      simp only [step, outStep, hc0, hc1, hc2, hc3, hc4, hc5, hc6, if_true, if_false, init, gather, scale, attend, mix, spread, pooled, read_stored, put_whole, readAt_whole, readCov_whole, View.read_writes_cons_put _ _ _ _ _ rfl, View.writes_nil, hf0, hf1, hf2, hf3, hf4, hf5, hf6, hf7, hf8, hf9, hf10, hf11, hf12, hf13, hfs0, hfs1, hfs2, hfs3, hfs4, hfs5]
    isplitl [HS3]
    · iexists _; isplitr; swap; · iexact HS3
      ipureintro; try sl_open_run
      simp only [step, outStep, hc0, hc1, hc2, hc3, hc4, hc5, hc6, if_true, if_false, init, gather, scale, attend, mix, spread, pooled, read_stored, put_whole, readAt_whole, readCov_whole, View.read_writes_cons_put _ _ _ _ _ rfl, View.writes_nil, hf0, hf1, hf2, hf3, hf4, hf5, hf6, hf7, hf8, hf9, hf10, hf11, hf12, hf13, hfs0, hfs1, hfs2, hfs3, hfs4, hfs5]
    isplitl [HS4]
    · iexists _; isplitr; swap; · iexact HS4
      ipureintro; try sl_open_run
      simp only [step, outStep, hc0, hc1, hc2, hc3, hc4, hc5, hc6, if_true, if_false, init, gather, scale, attend, mix, spread, pooled, read_stored, put_whole, readAt_whole, readCov_whole, View.read_writes_cons_put _ _ _ _ _ rfl, View.writes_nil, hf0, hf1, hf2, hf3, hf4, hf5, hf6, hf7, hf8, hf9, hf10, hf11, hf12, hf13, hfs0, hfs1, hfs2, hfs3, hfs4, hfs5]
    iexists _; isplitr; swap; · iexact HS5
    ipureintro; try sl_open_run
    simp only [step, outStep, hc0, hc1, hc2, hc3, hc4, hc5, hc6, if_true, if_false, init, gather, scale, attend, mix, spread, pooled, read_stored, put_whole, readAt_whole, readCov_whole, View.read_writes_cons_put _ _ _ _ _ rfl, View.writes_nil, hf0, hf1, hf2, hf3, hf4, hf5, hf6, hf7, hf8, hf9, hf10, hf11, hf12, hf13, hfs0, hfs1, hfs2, hfs3, hfs4, hfs5]

end Run

end Cert.Mega

end
-- ==== Proof.Mega.Chain.lean ====
/- What the scratch buffers hold before each grid point: the accumulators as recursions over the row blocks, and the
   invariant every point keeps. -/
module

public import proofs.«01_k».proof.Proof.Mega.State

@[expose] public section

set_option maxRecDepth 16384

noncomputable section

namespace Cert.Mega

open Idealize.ShloMosaic Idealize.ShloMosaic.TcCoe
open Cert.KernelIdeal Cert.KernelIdeal.Gen

variable {F : FTy → Type} [FloatOps F] [Named F]

variable (X : ℕ → In F)

/-- The gathered hyperedge features after `n` row blocks. -/
def emAt : ℕ → Vec F S1000x128 .f32
  | 0 => k0_pay1
  | n + 1 => k0_pay5 (X n).x (X n).w1 (emAt n) (X n).h

/-- The gathered features, scaled by the hyperedge degrees. -/
def emF : Vec F S1000x128 .f32 := k0_pay6 (emAt X 10) (X 10).de

/-- The second gather after `n` row blocks. -/
def efAt : ℕ → Vec F S1000x128 .f32
  | 0 => k0_pay2
  | n + 1 => k0_pay7 (X (10 + n)).h (emF X) (X (10 + n)).dv (X (10 + n)).wa (k0_pay4 (X 0).kk) (X (10 + n)).mm (efAt n)

/-- The mixed features. -/
def gF : Vec F S1000x128 .f32 := k0_pay8 (efAt X 10) (X 20).kk (X 20).we (X 20).w2

/-- The column sums of the second layer after `n` row blocks. -/
def caAt : ℕ → Vec F S1x128 .f32
  | 0 => k0_pay3
  | n + 1 => k0_pay11 (X (20 + n)).mm (gF X) (caAt n)

/-- A row of the whole second layer, as a row of its block. -/
def local10 (j : S10000x128.Idx) : S1000x128.Idx := fun k =>
  match k with
  | ⟨0, _⟩ => ⟨(j 0).val % 1000, Nat.mod_lt _ (by decide)⟩
  | ⟨1, _⟩ => ⟨(j 1).val, (j 1).isLt⟩

/-- The whole second layer, block by block. -/
def x2F : Vec F S10000x128 .f32 := fun j =>
  k0_pay10 (X (20 + (j 0).val / 1000)).mm (gF X) (local10 j)

/-- The pooled row the last point writes. -/
def pooledF : Vec F S1x128 .f32 := k0_pay12 (x2F X) (caAt X 10) (X 29).wp (X 29).ei (X 29).er

/-- What the scratch holds before point `t`. -/
structure Inv (t : ℕ) (S : St F) : Prop where
  em0 : 1 ≤ t → t ≤ 10 → S.em = emAt X t ∧ S.ef = k0_pay2
  kt : 1 ≤ t → t ≤ 20 → S.kt = k0_pay4 (X 0).kk ∧ S.ca = k0_pay3
  em1 : 11 ≤ t → t ≤ 20 → S.em = emF X ∧ S.ef = efAt X (t - 10)
  g : 21 ≤ t → S.g = gF X ∧ S.ca = caAt X (t - 20)
  x2 : 21 ≤ t → ∀ j : S10000x128.Idx, (j 0).val < (t - 20) * 1000 → S.x2 j = x2F X j

/-- Before the first point nothing is required. -/
theorem Inv.zero (S : St F) : Inv X 0 S :=
  ⟨fun h => absurd h (by omega), fun h => absurd h (by omega), fun h => absurd h (by omega), fun h => absurd h (by omega),
    fun h => absurd h (by omega)⟩

/-- A row block put into the second layer: its rows are the new block's, the others as before. -/
theorem put_rows (t : Fin grid0.N) (ht : 20 ≤ t.val) (x : Vec F S10000x128 .f32) (w : Vec F S1000x128 .f32) (j : S10000x128.Idx) :
    VecWindow.put x (k0_off1 (grid0.coords t)) S1000x128.size w j
      = if (j 0).val / 1000 = t.val - 20 then w (local10 j) else x j := by
  have hlt : t.val < 30 := Nat.lt_of_lt_of_eq t.isLt N_0
  have h1 : (grid0.coords t 1).val = t.val - 20 := by rw [(coords_val t).2]; omega
  have hj1 : (j 1).val < 128 := (j 1).isLt
  rw [k0_off1_eq, h1]
  unfold VecWindow.put
  by_cases h : (j 0).val / 1000 = t.val - 20
  · have hh : ∀ a : Fin 2, (![1000 * (t.val - 20), 0] : Fin 2 → ℕ) a ≤ (j a).val ∧ (j a).val < (![1000 * (t.val - 20), 0] : Fin 2 → ℕ) a + S1000x128.size a := fun a =>
      match a with
      | ⟨0, _⟩ => ⟨show 1000 * (t.val - 20) ≤ (j 0).val by omega, show (j 0).val < 1000 * (t.val - 20) + 1000 by omega⟩
      | ⟨1, _⟩ => ⟨show 0 ≤ (j 1).val by omega, show (j 1).val < 0 + 128 by omega⟩
    rw [if_pos h]
    refine (dif_pos hh).trans (congrArg w ?_)
    funext a
    refine Fin.ext ?_
    match a with
    | ⟨0, _⟩ => exact show (j 0).val - 1000 * (t.val - 20) = (j 0).val % 1000 by omega
    | ⟨1, _⟩ => rfl
  · rw [if_neg h]
    refine dif_neg fun hh => h ?_
    have := hh 0
    have h0 : 1000 * (t.val - 20) ≤ (j 0).val := this.1
    have h2 : (j 0).val < 1000 * (t.val - 20) + 1000 := this.2
    omega

/-- Every point keeps the invariant. -/
theorem Inv.step {t : Fin grid0.N} {S : St F} (h : Inv X t.val S) : Inv X (t.val + 1) (step (grid0.coords t) (X t.val) S) := by
  have hlt : t.val < 30 := Nat.lt_of_lt_of_eq t.isLt N_0
  obtain ⟨e0, e1, e2, e3, e4, e5, -⟩ := conds t
  unfold Mega.step
  simp only [e0, e1, e2, e3, e4, e5]
  generalize hn : t.val = n at *
  rcases (by omega : n = 0 ∨ (1 ≤ n ∧ n < 10) ∨ n = 10 ∨ (11 ≤ n ∧ n < 20) ∨ 20 ≤ n) with rfl | ⟨h1, h2⟩ | rfl | ⟨h1, h2⟩ | h1
  · exact ⟨fun _ _ => ⟨rfl, rfl⟩, fun _ _ => ⟨rfl, rfl⟩, fun h => absurd h (by omega), fun h => absurd h (by omega), fun h => absurd h (by omega)⟩
  · rw [if_neg (by omega : ¬n = 0), if_pos h2, if_neg (by omega : ¬n = 10), if_neg (by omega : ¬(10 ≤ n ∧ n < 20)), if_neg (by omega : ¬n = 20), if_neg (by omega : ¬20 ≤ n)]
    obtain ⟨a, b⟩ := h.em0 h1 (by omega)
    obtain ⟨a', b'⟩ := h.kt h1 (by omega)
    refine ⟨fun _ _ => ⟨?_, b⟩, fun _ _ => ⟨a', b'⟩, fun h => absurd h (by omega), fun h => absurd h (by omega), fun h => absurd h (by omega)⟩
    show k0_pay5 (X n).x (X n).w1 S.em (X n).h = _
    rw [a]; rfl
  · obtain ⟨a, b⟩ := h.em0 (by omega) (by omega)
    obtain ⟨a', b'⟩ := h.kt (by omega) (by omega)
    refine ⟨fun _ h => absurd h (by omega), fun _ _ => ⟨a', b'⟩, fun _ _ => ⟨?_, ?_⟩, fun h => absurd h (by omega), fun h => absurd h (by omega)⟩
    · show k0_pay6 S.em (X 10).de = _
      rw [a]; rfl
    · show k0_pay7 (X 10).h (k0_pay6 S.em (X 10).de) (X 10).dv (X 10).wa S.kt (X 10).mm S.ef = _
      rw [a, b, a']; rfl
  · rw [if_neg (by omega : ¬n = 0), if_neg (by omega : ¬n < 10), if_neg (by omega : ¬n = 10), if_pos (by omega : 10 ≤ n ∧ n < 20), if_neg (by omega : ¬n = 20), if_neg (by omega : ¬20 ≤ n)]
    obtain ⟨a, b⟩ := h.em1 h1 (by omega)
    obtain ⟨a', b'⟩ := h.kt (by omega) (by omega)
    refine ⟨fun _ h => absurd h (by omega), fun _ _ => ⟨a', b'⟩, fun _ _ => ⟨a, ?_⟩, fun h => absurd h (by omega), fun h => absurd h (by omega)⟩
    show k0_pay7 (X n).h S.em (X n).dv (X n).wa S.kt (X n).mm S.ef = _
    obtain ⟨k, rfl⟩ : ∃ k, n = 10 + k := ⟨n - 10, by omega⟩
    rw [a, b, a', show 10 + k + 1 - 10 = k + 1 by omega, show 10 + k - 10 = k by omega]; rfl
  · rw [if_neg (by omega : ¬n = 0), if_neg (by omega : ¬n < 10), if_neg (by omega : ¬n = 10), if_neg (by omega : ¬(10 ≤ n ∧ n < 20)), if_pos h1]
    have key : ∃ S' : St F, (if n = 20 then mix (X n) S else S) = S' ∧ S'.x2 = S.x2 ∧ S'.g = gF X ∧ S'.ca = caAt X (n - 20) := by
      refine ⟨_, rfl, ?_⟩
      by_cases h20 : n = 20
      · subst h20
        obtain ⟨-, b⟩ := h.em1 (by omega) (by omega)
        obtain ⟨-, b'⟩ := h.kt (by omega) (by omega)
        rw [if_pos rfl]
        refine ⟨rfl, ?_, b'⟩
        show k0_pay8 S.ef (X 20).kk (X 20).we (X 20).w2 = _
        rw [b]; rfl
      · rw [if_neg h20]
        exact ⟨rfl, (h.g (by omega)).1, (h.g (by omega)).2⟩
    obtain ⟨S', hS', hx, hg, hc⟩ := key
    rw [hS']
    refine ⟨fun _ h => absurd h (by omega), fun _ h => absurd h (by omega), fun _ h => absurd h (by omega), fun _ => ⟨hg, ?_⟩, fun _ j hj => ?_⟩
    · show k0_pay11 (X n).mm S'.g S'.ca = _
      obtain ⟨k, rfl⟩ : ∃ k, n = 20 + k := ⟨n - 20, by omega⟩
      rw [hg, hc, show 20 + k + 1 - 20 = k + 1 by omega, show 20 + k - 20 = k by omega]; rfl
    · show VecWindow.put S'.x2 (k0_off1 (grid0.coords t)) S1000x128.size (k0_pay10 (X n).mm S'.g) j = _
      rw [put_rows t (by omega), hn, hg, hx]
      by_cases hr : (j 0).val / 1000 = n - 20
      · rw [if_pos hr]; unfold x2F; rw [hr, show 20 + (n - 20) = n by omega]
      · rw [if_neg hr]
        by_cases h20 : n = 20
        · exact absurd hj (by omega)
        · exact h.x2 (by omega) j (by omega)

/-- At the last point the row written is the pooled row. -/
theorem Inv.pooled {t : Fin grid0.N} (h29 : t.val = 29) {S : St F} (h : Inv X (t.val + 1) S) : Mega.pooled (X t.val) S = pooledF X := by
  have hx : S.x2 = x2F X := funext fun j => h.x2 (by omega) j (by have : (j 0).val < 10000 := (j 0).isLt; omega)
  have hc := (h.g (by omega)).2
  rw [h29] at hc ⊢
  unfold Mega.pooled pooledF
  rw [hx, hc]

end Cert.Mega

end
-- ==== Proof.Mega.Run.lean ====
/- The launch: the proof data of the pipeline, the body's obligation at every point, and the run. -/
module

public import proofs.«01_k».proof.Proof.Mega.Body
public import proofs.«01_k».proof.Proof.Mega.Chain
public import Idealize.ShloMosaic.Lib.Claim

@[expose] public section

set_option maxRecDepth 16384

noncomputable section

namespace Cert.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers the body is called on -/

abbrev ms0 (t : Fin cfg0.N) : Memref sig .tc .vmem S1000x128 .f32 := win0_0.stage (cfg0.slots t 0)
abbrev ms1 (t : Fin cfg0.N) : Memref sig .tc .vmem S1000x1000 .f32 := win0_1.stage (cfg0.slots t 1)
abbrev ms2 (t : Fin cfg0.N) : Memref sig .tc .vmem S1000x1000 .f32 := win0_2.stage (cfg0.slots t 2)
abbrev ms3 (t : Fin cfg0.N) : Memref sig .tc .vmem S1000x1 .f32 := win0_3.stage (cfg0.slots t 3)
abbrev ms4 (t : Fin cfg0.N) : Memref sig .tc .vmem S1000x1 .f32 := win0_4.stage (cfg0.slots t 4)
abbrev ms5 (t : Fin cfg0.N) : Memref sig .tc .vmem S10000x1 .f32 := win0_5.stage (cfg0.slots t 5)
abbrev ms6 (t : Fin cfg0.N) : Memref sig .tc .vmem S10000x1 .f32 := win0_6.stage (cfg0.slots t 6)
abbrev ms7 (t : Fin cfg0.N) : Memref sig .tc .vmem S1000x128 .f32 := win0_7.stage (cfg0.slots t 7)
abbrev ms8 (t : Fin cfg0.N) : Memref sig .tc .vmem S128x128 .f32 := win0_8.stage (cfg0.slots t 8)
abbrev ms9 (t : Fin cfg0.N) : Memref sig .tc .vmem S128x128 .f32 := win0_9.stage (cfg0.slots t 9)
abbrev ms10 (t : Fin cfg0.N) : Memref sig .tc .vmem S128x128 .f32 := win0_10.stage (cfg0.slots t 10)
abbrev ms11 (t : Fin cfg0.N) : Memref sig .tc .vmem S128x128 .f32 := win0_11.stage (cfg0.slots t 11)
abbrev ms12 (t : Fin cfg0.N) : Memref sig .tc .vmem S128x128 .f32 := win0_12.stage (cfg0.slots t 12)
abbrev ms13 (t : Fin cfg0.N) : Memref sig .tc .vmem S1x128 .f32 := win0_13.stage (cfg0.slots t 13)
abbrev sm0 : Memref sig .tc .vmem S1000x128 .f32 := Memref.whole cc0_scratch0
abbrev sm1 : Memref sig .tc .vmem S1000x128 .f32 := Memref.whole cc0_scratch1
abbrev sm2 : Memref sig .tc .vmem S128x1000 .f32 := Memref.whole cc0_scratch2
abbrev sm3 : Memref sig .tc .vmem S1000x128 .f32 := Memref.whole cc0_scratch3
abbrev sm4 : Memref sig .tc .vmem S10000x128 .f32 := Memref.whole cc0_scratch4
abbrev sm5 : Memref sig .tc .vmem S1x128 .f32 := Memref.whole cc0_scratch5

/-- The blocks the thirteen operands hold at point `t`. -/
def insOf (c : Dev nD) (t : Fin cfg0.N) : In F where
  x := iblk m c 0 t
  h := iblk m c 1 t
  mm := iblk m c 2 t
  dv := iblk m c 3 t
  de := iblk m c 4 t
  ei := iblk m c 5 t
  er := iblk m c 6 t
  kk := iblk m c 7 t
  w1 := iblk m c 8 t
  wa := iblk m c 9 t
  we := iblk m c 10 t
  w2 := iblk m c 11 t
  wp := iblk m c 12 t

/-- The point of a number (past the grid, some point: never used). -/
def pt (n : ℕ) : Fin cfg0.N := ⟨n % 30, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- The blocks by the number of the point. -/
def Xat (c : Dev nD) (n : ℕ) : In F := insOf m c (pt n)

theorem Xat_val (c : Dev nD) (t : Fin cfg0.N) : Xat m c t.val = insOf m c t := by
  unfold Xat; rw [pt_val]

/-! ## The proof data -/

/-- Before point `n`: the scratch at contents the invariant allows, and the generator register at some state. -/
def PhiS (c : Dev nD) (n : ℕ) (_ : n ≤ cfg0.N) : sProp 𝕄 :=
  iprop((∃ S, ⌜Inv (Xat m c) n S⌝ ∗ scratchAt c sm0 sm1 sm2 sm3 sm4 sm5 S) ∗ ∃ r, prngReg c r)

/-- The proof data: the arrays as the region finds them, every input's buffer at its block, the result's at the pooled row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => pooledF (Xat m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = pooledF (Xat m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after_7]
theorem leaves_8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after_8]
theorem leaves_9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after_9]
theorem leaves_10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after_10]
theorem leaves_11 (c : Dev nD) (t : Fin cfg0.N) : (dats m 0 c).leavesExact 11 t = owns (c : Thread nD τ) (ms11 t) fullShare (iblk m c 11 t) := by
  unfold Dat.leavesExact; rw [show cfg0.idle 11 (cfg0.grid.coords t) = false from rfl, after_11]
theorem leaves_12 (c : Dev nD) (t : Fin cfg0.N) : (dats m 0 c).leavesExact 12 t = owns (c : Thread nD τ) (ms12 t) fullShare (iblk m c 12 t) := by
  unfold Dat.leavesExact; rw [show cfg0.idle 12 (cfg0.grid.coords t) = false from rfl, after_12]

/-- The result's window is idle, and not written back, at every point but the last. -/
theorem quiet_13 : ∀ t : Fin cfg0.N, t.val ≠ 29 → cfg0.idle 13 (cfg0.grid.coords t) = true ∧ (cfg0.win 13).flush t = false := by
  decide +kernel

theorem live_13 : ∀ t : Fin cfg0.N, t.val = 29 → cfg0.idle 13 (cfg0.grid.coords t) = false := by
  decide +kernel

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- The result's buffer as the body leaves it is what the proof data asks for. -/
theorem leaves_13 (c : Dev nD) (t : Fin cfg0.N) (S : St F) (hS : Inv (Xat m c) (t.val + 1) S) (d : Vec F S1x128 .f32) :
    owns (c : Thread nD τ) (ms13 t) fullShare (outStep (grid0.coords t) (insOf m c t) S ((dats m 0 c).before 13 t d))
      ⊢ ((dats m 0 c).leavesExact 13 t : sProp 𝕄) := by
  by_cases h : t.val = 29
  · have h6 : c6 (grid0.coords t) := (conds t).2.2.2.2.2.2.mpr h
    rw [show (dats m 0 c).leavesExact 13 t = owns (c : Thread nD τ) (ms13 t) fullShare (pooledF (Xat m c)) from by
      unfold Dat.leavesExact; rw [live_13 t h, after_13]]
    unfold outStep
    rw [if_pos h6, ← Xat_val, Inv.pooled _ h hS]
  · have h6 : ¬c6 (grid0.coords t) := fun h' => h ((conds t).2.2.2.2.2.2.mp h')
    rw [Dat.leavesExact_idle (dats m 0 c) 13 t (quiet_13 t h).1 (quiet_13 t h).2]
    unfold outStep
    rw [if_neg h6]
    iintro H
    iexists d; iexact H

set_option maxHeartbeats 4000000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [show (dats m 0 c).owesAt () t.succ = (dats m 0 c).owesAt () t.castSucc from rfl]
  rw [show (dats m 0 c).Φ t.succ = PhiS m c (t.val + 1) t.isLt from rfl, Phi_castSucc]
  unfold PhiS
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hS' : Inv (Xat m c) (t.val + 1) (step (grid0.coords t) (insOf m c t) S) := Xat_val m c t ▸ hS.step
  iapply (body_run c (grid0.coords t) _ _ _ _ _ _ _ _ _ _ _ _ _ _ _ _ _ _ _ _ _ _ _ _ _ _ _ _ _ _ _ _ _ _ _ _ _ _ _ _ (case_of t) (insOf m c t) ((dats m 0 c).before 13 t d13) S Set.univ _)
  isplitl [H0 H1 H2 H3 H4 H5 H6 H7 H8 H9 H10 H11 H12]
  · unfold insAt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexact H13
  isplitl [HS]; · iexact HS
  iintro ⟨HI, H13, HS⟩
  isplitl [HS Hg]
  · isplitl [HS]
    · iexists _; isplitr
      · ipureintro; exact hS'
      iexact HS
    iexact Hg
  isplitl [Ho]; · iexact Ho
  unfold insAt
  icases HI with ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (leaves_13 m c t _ hS' d13)
  iexact H13

/-- The body table's row at point `t` is the body at that point. -/
theorem defs_row (t : Fin cfg0.N) :
    defs₀ (F := F) .tc cfg0.body (cfg0.bodyArgs t (cfg0.slots t)) = bodyAt0 t := by
  unfold defs₀; rw [Defs.onTc_tc]

/-- The library's obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- What the launch hands the region, opened: the six scratch buffers at anything, the generator register at some state. -/
theorem PhiA_eq (c : Dev nD) :
    (Pipeline.ΦA spec0 c : sProp 𝕄)
      = iprop(((∃ d, owns (c : Thread nD τ) sm0 fullShare d) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d) ∗ (∃ d, owns (c : Thread nD τ) sm5 fullShare d)) ∗ ∃ r, prngReg c r) := by
  unfold Pipeline.ΦA; rw [scopedRest0_eq]; simp only [sm0, sm1, sm2, sm3, sm4, sm5, owns_whole]; try rfl

/-- The launch's scratch satisfies the invariant before the first point. -/
theorem hin (c : Dev nD) : Pipeline.ΦA spec0 c ⊢ (dats m 0 c).Φ 0 := by
  rw [show (dats m 0 c).Φ 0 = PhiS m c 0 (Nat.zero_le _) from rfl, PhiA_eq]
  unfold PhiS scratchAt
  iintro ⟨⟨⟨%d0, H0⟩, ⟨%d1, H1⟩, ⟨%d2, H2⟩, ⟨%d3, H3⟩, ⟨%d4, H4⟩, ⟨%d5, H5⟩⟩, Hg⟩
  isplitl [H0 H1 H2 H3 H4 H5]
  · iexists (⟨d0, d1, d2, d3, d4, d5⟩ : St F)
    isplitr
    · ipureintro; exact Inv.zero _ _
    isplitl [H0]; · iexact H0
    isplitl [H1]; · iexact H1
    isplitl [H2]; · iexact H2
    isplitl [H3]; · iexact H3
    isplitl [H4]; · iexact H4
    iexact H5
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS scratchAt
  iintro ⟨⟨%S, %hS, H0, H1, H2, H3, H4, H5⟩, Hg⟩
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-! ## The run -/

-- the launch theorem's implicit arguments are found by unifying its conclusion with this one
set_option backward.isDefEq.respectTransparency.types false in
set_option maxHeartbeats 800000 in
/-- Every execution ends, with every array of the pipeline as the proof data says, every other buffer as the lines after
    the region leave it, and every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every execution leaves the thirteen arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Mega

end
-- ==== Proof.Mega.Printed.lean ====
/- The program as printed is the program with named constants, each name read as the printed word: one run serves both. -/
module

public import proofs.«01_k».proof.Proof.Mega.Run
public import proofs.«01_k».proof.Defs
public import proofs.«01_k».proof.Proof.Gen.Kernel

@[expose] public section

set_option maxRecDepth 16384

noncomputable section

namespace Cert.Mega

open Idealize.ShloMosaic Idealize.SL.Sem

/-- At the machine's words a named constant is the word printed. -/
local instance : Named Bits where
  named _ _ _ bits := Scalar.ofBits _ bits

/-- The two body tables are the same at the words. -/
theorem tables₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So are the tables with the pipeline's labels. -/
theorem tables_eq : Cert.Kernel.defs (F := Bits) = Cert.KernelIdeal.defs (F := Bits) :=
  congrArg (Pipeline.defs Cert.KernelIdeal.pcfgs) tables₀_eq

/-- And the two main programs. -/
theorem main_eq : Cert.Kernel.main (F := Bits) = Cert.KernelIdeal.main (F := Bits) := rfl

/-- So the two programs run alike. -/
theorem run_eq : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) :=
  congrArg (fun d => θ_run d (onTc (τ := Cert.KernelIdeal.τ) (Cert.KernelIdeal.main (F := Bits)))) tables_eq

set_option maxHeartbeats 4000000 in
/-- The program as printed ends, leaves its arguments as they were and every counter at zero. -/
theorem frame_printed : Cert.quiescent_Kernel := fun m ρ _ => by
  rw [run_eq]; exact frame (F := Bits) m ρ

/-- The program with named constants ends, leaves its arguments as they were and every counter at zero. -/
theorem frame_named : Cert.quiescent_KernelIdeal := fun m ρ _ => frame (F := Ideal) m ρ

end Cert.Mega

end
-- ==== Proof.Mega.Frames.lean ====
/- The reference's frame and the named constants' statements. -/
module

public import proofs.«01_k».proof.Defs
public import proofs.«01_k».proof.Proof.Gen.ReferenceIdeal.Run
public import Idealize.ShloMosaic.Lib.Quiescent

@[expose] public section

noncomputable section

namespace Cert.Mega

open Idealize.ShloMosaic Idealize.SL.Sem

/-- The reference ends, leaves its arguments as they were and every counter at zero: it declares none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant is the printed word at the machine's floats and its name's value at the ideal ones. -/
theorem preserves_names : Cert.preserves_Kernel_KernelIdeal :=
  ⟨IdealRules.named_const.statement Cert.KernelIdeal.κ "inv_sqrt_d" .f32 0x3DB504F3#32 (((Real.sqrt 128)⁻¹ : ℝ) : EReal) rfl,
    IdealRules.named_const.statement Cert.KernelIdeal.κ "inv_n" .f32 0x38D1B717#32 ((1 / 10000 : ℝ) : EReal) rfl⟩

end Cert.Mega

end
-- ==== Proof.Mega.Spec.lean ====
/- The network's formulas over plain indices: what the kernel and the reference both compute. -/
module

public import Idealize.ShloMosaic.PureOps.Ideal
public import Idealize.ShloMosaic.PureOps.Ideal.Laws
public import Idealize.ShloMosaic.Lib.IdealHost

@[expose] public section

noncomputable section

namespace Cert.Mega

open Idealize.ShloMosaic
open scoped BigOperators

/-- The softmax of finitely many scores: each exponential, from which the largest score was subtracted, over their sum. -/
def soft {n : ℕ} (z : Fin n → EReal) (i : Fin n) : EReal :=
  Ideal.div (Ideal.exp (z i - Finset.univ.fold max ⊥ z)) (∑ j, Ideal.exp (z j - Finset.univ.fold max ⊥ z))

/-- A node's features after the first convolution, from the edges' messages and the node's row of memberships. -/
def convRow (em : Fin 1000 → Fin 128 → EReal) (h : Fin 1000 → EReal) (dv : EReal) (d : Fin 128) : EReal :=
  max ((∑ e, h e * em e d) * dv) 0

/-- A node's attention over the edges: the softmax of its scaled products with the edges' own features. -/
def attnRow (wa : Fin 128 → Fin 128 → EReal) (K : Fin 1000 → Fin 128 → EReal) (x1 : Fin 128 → EReal) : Fin 1000 → EReal :=
  soft fun e => (∑ d, (∑ k, x1 k * wa k d) * K e d) * (((Real.sqrt 128)⁻¹ : ℝ) : EReal)

/-- The edges' features mixed with their own and taken through the second weights. -/
def mixRow (K : Fin 1000 → Fin 128 → EReal) (we w2 : Fin 128 → Fin 128 → EReal) (ef : Fin 1000 → Fin 128 → EReal)
    (e : Fin 1000) (d : Fin 128) : EReal :=
  ∑ k, (ef e k + ∑ j, K e j * we j k) * w2 k d

/-- A node's features after the second convolution. -/
def nodeRow (g : Fin 1000 → Fin 128 → EReal) (mm : Fin 1000 → EReal) (d : Fin 128) : EReal :=
  max (∑ e, mm e * g e d) 0

/-- A node's score against the context, the context being the summed features `ca` over the number of nodes. -/
def score (wp : Fin 128 → Fin 128 → EReal) (ca : Fin 128 → EReal) (x2 : Fin 128 → EReal) : EReal :=
  ∑ d, x2 d * ∑ k, ca k * ((1 / 10000 : ℝ) : EReal) * wp d k

/-- The pooled row: the nodes' features under the sum of two softmax weights. -/
def pool (s ei er : Fin 10000 → EReal) (x2 : Fin 10000 → Fin 128 → EReal) (d : Fin 128) : EReal :=
  ∑ n, (soft (fun n => s n * ei n) n + soft (fun n => s n * er n) n) * x2 n d

/-- The network's arguments. -/
structure Net where
  x : Fin 10000 → Fin 128 → EReal
  H : Fin 10000 → Fin 1000 → EReal
  K : Fin 1000 → Fin 128 → EReal
  M : Fin 10000 → Fin 1000 → EReal
  dv : Fin 10000 → EReal
  de : Fin 1000 → EReal
  ei : Fin 10000 → EReal
  er : Fin 10000 → EReal
  W1 : Fin 128 → Fin 128 → EReal
  Wa : Fin 128 → Fin 128 → EReal
  We : Fin 128 → Fin 128 → EReal
  W2 : Fin 128 → Fin 128 → EReal
  Wp : Fin 128 → Fin 128 → EReal

variable (N : Net)

/-- The edges' messages before their scaling. -/
def Net.gath (e : Fin 1000) (d : Fin 128) : EReal := ∑ n, N.H n e * ∑ k, N.x n k * N.W1 k d

/-- The edges' messages. -/
def Net.em (e : Fin 1000) (d : Fin 128) : EReal := N.gath e d * N.de e

/-- The nodes' features after the first convolution. -/
def Net.x1 (n : Fin 10000) : Fin 128 → EReal := convRow N.em (N.H n) (N.dv n)

/-- The nodes' attention over the edges. -/
def Net.alpha (n : Fin 10000) : Fin 1000 → EReal := attnRow N.Wa N.K (N.x1 n)

/-- The nodes' features gathered by attention into the edges. -/
def Net.ef (e : Fin 1000) (d : Fin 128) : EReal := ∑ n, N.alpha n e * N.M n e * N.x1 n d

/-- The edges' features sent back to the nodes. -/
def Net.g : Fin 1000 → Fin 128 → EReal := mixRow N.K N.We N.W2 N.ef

/-- The nodes' features after the second convolution. -/
def Net.x2 (n : Fin 10000) : Fin 128 → EReal := nodeRow N.g (N.M n)

/-- The nodes' features summed over the nodes. -/
def Net.ca (d : Fin 128) : EReal := ∑ n, N.x2 n d

/-- The nodes' scores. -/
def Net.s (n : Fin 10000) : EReal := score N.Wp N.ca (N.x2 n)

/-- The network's result. -/
def Net.out : Fin 128 → EReal := pool N.s N.ei N.er N.x2

/-- The pattern of minus infinity is the least extended real. -/
theorem ofBits_bot : Ideal.ofBits .f32 0xFF800000#32 = ⊥ := by
  simp [Ideal.ofBits, Ideal.ieee]

/-- A product with the inverse root is the quotient by the root. -/
theorem mul_inv_root (x : EReal) : x * (((Real.sqrt 128)⁻¹ : ℝ) : EReal) = Ideal.div x ((Real.sqrt 128 : ℝ) : EReal) := by
  rw [Ideal.div_coe (by positivity), one_div]

/-- A product with a ten-thousandth is the quotient by ten thousand. -/
theorem mul_inv_count (x : EReal) : x * ((1 / 10000 : ℝ) : EReal) = Ideal.div x ((10000 : ℝ) : EReal) := by
  rw [Ideal.div_coe (by norm_num)]

/-- Exponentials are not negative. -/
theorem exp_nonneg (a : EReal) : 0 ≤ Ideal.exp a := by
  induction a using EReal.rec with
  | bot => simp
  | top => simp
  | coe r => simpa using Real.exp_nonneg r

/-- A quotient of numbers that are not negative is not negative, or is minus infinity: the quotient by zero. -/
theorem div_cases {a b : EReal} (ha : 0 ≤ a) (hb : 0 ≤ b) : Ideal.div a b = ⊥ ∨ 0 ≤ Ideal.div a b := by
  unfold Ideal.div
  split
  · split
    · exact .inr le_top
    · exact .inl rfl
  · exact .inr (mul_nonneg ha (EReal.inv_nonneg_of_nonneg hb))

/-- A softmax weight is not negative, or is minus infinity (where no exponential is above zero). -/
theorem soft_cases {n : ℕ} (z : Fin n → EReal) (i : Fin n) : soft z i = ⊥ ∨ 0 ≤ soft z i :=
  div_cases (exp_nonneg _) (Finset.sum_nonneg fun _ _ => exp_nonneg _)

/-- Such weights distribute over a factor that is not negative. -/
theorem weight_distrib {a b c : EReal} (ha : a = ⊥ ∨ 0 ≤ a) (hb : b = ⊥ ∨ 0 ≤ b) (hc : 0 ≤ c) :
    (a + b) * c = a * c + b * c := by
  rcases hc.eq_or_lt with rfl | hc
  · simp
  · rcases ha with rfl | ha
    · rw [EReal.bot_add, EReal.bot_mul_of_pos hc, EReal.bot_add]
    · rcases hb with rfl | hb
      · rw [EReal.add_bot, EReal.bot_mul_of_pos hc, EReal.add_bot]
      · exact EReal.right_distrib_of_nonneg ha hb

/-- A node's features after the second convolution are not negative. -/
theorem nodeRow_nonneg (g : Fin 1000 → Fin 128 → EReal) (mm : Fin 1000 → EReal) (d : Fin 128) : 0 ≤ nodeRow g mm d :=
  le_max_right _ _

/-- Pooling under the sum of two weights is the sum of the two poolings. -/
theorem pool_eq (s ei er : Fin 10000 → EReal) (x2 : Fin 10000 → Fin 128 → EReal) (h : ∀ n d, 0 ≤ x2 n d) (d : Fin 128) :
    pool s ei er x2 d = (∑ n, soft (fun n => s n * ei n) n * x2 n d) + ∑ n, soft (fun n => s n * er n) n * x2 n d := by
  unfold pool
  rw [← Finset.sum_add_distrib]
  exact Finset.sum_congr rfl fun n _ => weight_distrib (soft_cases _ _) (soft_cases _ _) (h n d)

/-- Row `r` of block `n`, among all the rows. -/
def rowOf (n : ℕ) (h : n < 10) (r : Fin 1000) : Fin 10000 := ⟨1000 * n + r.val, by omega⟩

/-- An accumulator that starts at zero and adds each block's sum in turn ends with the sum over all rows. -/
theorem sum_of_blocks (a : ℕ → EReal) (f : Fin 10000 → EReal) (h0 : a 0 = 0)
    (hs : ∀ (n : ℕ) (h : n < 10), a (n + 1) = a n + ∑ r, f (rowOf n h r)) : a 10 = ∑ n, f n := by
  have key : ∀ n (h : n ≤ 10), a n = ∑ b : Fin n, ∑ r, f (rowOf b.val (by omega) r) := by
    intro n
    induction n with
    | zero => intro _; simpa using h0
    | succ n ih => intro h; rw [hs n (by omega), ih (by omega)]; exact (Fin.sum_univ_castSucc (fun b : Fin (n + 1) => ∑ r, f (rowOf b.val (by omega) r))).symm
  rw [key 10 le_rfl, ← Fintype.sum_prod_type' (f := fun (b : Fin 10) (r : Fin 1000) => f (rowOf b.val (by omega) r)),
    ← (finProdFinEquiv (m := 10) (n := 1000)).sum_comp (fun n => f n)]
  refine Finset.sum_congr rfl fun p _ => congrArg f (Fin.ext ?_)
  simp [rowOf, finProdFinEquiv]
  omega

end Cert.Mega

end
-- ==== Proof.Mega.Payload.lean ====
/- What each of the kernel's stores computes, read at an index. -/
module

public import proofs.«01_k».proof.Proof.Mega.Chain
public import proofs.«01_k».proof.Proof.Mega.Spec
public import Idealize.ShloMosaic.Lib.Pointwise

@[expose] public section

noncomputable section

namespace Cert.Mega

open Idealize.ShloMosaic Idealize.ShloMosaic.TcCoe
open Cert.KernelIdeal Cert.KernelIdeal.Gen
open scoped BigOperators

/-- A matrix read at two plain indices. -/
def mat {a b : ℕ} (v : (⟨2, ![a, b]⟩ : Shape).Idx → EReal) (i : Fin a) (j : Fin b) : EReal := v (ix2 i j)

/-- A vector read at a plain index. -/
def vec {a : ℕ} (v : (⟨1, ![a]⟩ : Shape).Idx → EReal) (i : Fin a) : EReal := v (ix1 i)

/-- A column read at a plain index. -/
def col {a : ℕ} (v : (⟨2, ![a, 1]⟩ : Shape).Idx → EReal) (i : Fin a) : EReal := v (ix2 i 0)

theorem named_root : (Named.named κ "inv_sqrt_d" 0x3DB504F3#32 : Ideal .f32) = (((Real.sqrt 128)⁻¹ : ℝ) : EReal) :=
  IdealRules.named_const.ideal_named_scalar _ _ _ _ rfl

theorem named_count : (Named.named κ "inv_n" 0x38D1B717#32 : Ideal .f32) = ((1 / 10000 : ℝ) : EReal) :=
  IdealRules.named_const.ideal_named_scalar _ _ _ _ rfl

/-- The accumulators start at zero. -/
theorem pay1_at (e : Fin 1000) (d : Fin 128) : mat (k0_pay1 (F := Ideal)) e d = 0 := by
  unfold mat
  pointwise [k0_pay1]

theorem pay2_at (e : Fin 1000) (d : Fin 128) : mat (k0_pay2 (F := Ideal)) e d = 0 := by
  unfold mat
  pointwise [k0_pay2]

theorem pay3_at (d : Fin 128) : mat (k0_pay3 (F := Ideal)) 0 d = 0 := by
  unfold mat
  pointwise [k0_pay3]

/-- The edges' features are kept transposed. -/
theorem pay4_at (K : Vec Ideal S1000x128 .f32) (d : Fin 128) (e : Fin 1000) :
    mat (k0_pay4 (F := Ideal) K) d e = mat K e d := by
  unfold mat
  pointwise [k0_pay4]

/-- One block of rows, gathered into the edges. -/
theorem pay5_at (x : Vec Ideal S1000x128 .f32) (w : Vec Ideal S128x128 .f32) (em : Vec Ideal S1000x128 .f32)
    (h : Vec Ideal S1000x1000 .f32) (e : Fin 1000) (d : Fin 128) :
    mat (k0_pay5 (F := Ideal) x w em h) e d = mat em e d + ∑ r, mat h r e * ∑ k, mat x r k * mat w k d := by
  unfold mat
  pointwise [k0_pay5]

/-- The gathered messages, scaled. -/
theorem pay6_at (em : Vec Ideal S1000x128 .f32) (de : Vec Ideal S1000x1 .f32) (e : Fin 1000) (d : Fin 128) :
    mat (k0_pay6 (F := Ideal) em de) e d = mat em e d * col de e := by
  unfold mat col
  pointwise [k0_pay6]

/-- One block of rows, attended and gathered into the edges. -/
theorem pay7_at (h : Vec Ideal S1000x1000 .f32) (em : Vec Ideal S1000x128 .f32) (dv : Vec Ideal S1000x1 .f32)
    (wa : Vec Ideal S128x128 .f32) (kk : Vec Ideal S1000x128 .f32) (m : Vec Ideal S1000x1000 .f32)
    (ef : Vec Ideal S1000x128 .f32) (e : Fin 1000) (d : Fin 128) :
    mat (k0_pay7 (F := Ideal) h em dv wa (k0_pay4 kk) m ef) e d
      = mat ef e d + ∑ r, attnRow (mat wa) (mat kk) (convRow (mat em) (mat h r) (col dv r)) e * mat m r e
          * convRow (mat em) (mat h r) (col dv r) d := by
  unfold mat col attnRow soft convRow
  pointwise [k0_pay7, k0_pay4]
  simp only [named_root, ofBits_bot]

/-- The edges' features, mixed. -/
theorem pay8_at (ef kk : Vec Ideal S1000x128 .f32) (we w2 : Vec Ideal S128x128 .f32) (e : Fin 1000) (d : Fin 128) :
    mat (k0_pay8 (F := Ideal) ef kk we w2) e d = mixRow (mat kk) (mat we) (mat w2) (mat ef) e d := by
  unfold mat mixRow
  pointwise [k0_pay8]

/-- One block of the nodes' features. -/
theorem pay10_at (m : Vec Ideal S1000x1000 .f32) (g : Vec Ideal S1000x128 .f32) (r : Fin 1000) (d : Fin 128) :
    mat (k0_pay10 (F := Ideal) m g) r d = nodeRow (mat g) (mat m r) d := by
  unfold mat nodeRow
  pointwise [k0_pay10, k0_pay9]

/-- One block's features summed over its rows. -/
theorem pay11_at (m : Vec Ideal S1000x1000 .f32) (g : Vec Ideal S1000x128 .f32) (ca : Vec Ideal S1x128 .f32) (d : Fin 128) :
    mat (k0_pay11 (F := Ideal) m g ca) 0 d = mat ca 0 d + ∑ r, nodeRow (mat g) (mat m r) d := by
  unfold mat nodeRow
  pointwise [k0_pay11, k0_pay9]

/-- The pooling of all rows. -/
theorem pay12_at (x2 : Vec Ideal S10000x128 .f32) (ca : Vec Ideal S1x128 .f32) (wp : Vec Ideal S128x128 .f32)
    (ei er : Vec Ideal S10000x1 .f32) (d : Fin 128) :
    mat (k0_pay12 (F := Ideal) x2 ca wp ei er) 0 d
      = pool (fun n => score (mat wp) (mat ca 0) (mat x2 n)) (col ei) (col er) (mat x2) d := by
  unfold mat col pool soft score
  pointwise [k0_pay12]
  simp only [named_count, ofBits_bot]

end Cert.Mega

end
-- ==== Proof.Mega.Holds.lean ====
/- What the scratch buffers and the result hold, as the network's formulas. -/
module

public import proofs.«01_k».proof.Proof.Mega.Payload

@[expose] public section

noncomputable section

namespace Cert.Mega

open Idealize.ShloMosaic Idealize.ShloMosaic.TcCoe
open Cert.KernelIdeal Cert.KernelIdeal.Gen
open scoped BigOperators

/-- The blocks each grid point reads are the network's arguments, cut into blocks of rows. -/
structure Fits (X : ℕ → In Ideal) (N : Net) : Prop where
  x : ∀ (n : ℕ) (h : n < 10) (r : Fin 1000), mat (X n).x r = N.x (rowOf n h r)
  h0 : ∀ (n : ℕ) (h : n < 10) (r : Fin 1000), mat (X n).h r = N.H (rowOf n h r)
  h1 : ∀ (n : ℕ) (h : n < 10) (r : Fin 1000), mat (X (10 + n)).h r = N.H (rowOf n h r)
  m1 : ∀ (n : ℕ) (h : n < 10) (r : Fin 1000), mat (X (10 + n)).mm r = N.M (rowOf n h r)
  m2 : ∀ (n : ℕ) (h : n < 10) (r : Fin 1000), mat (X (20 + n)).mm r = N.M (rowOf n h r)
  dv : ∀ (n : ℕ) (h : n < 10) (r : Fin 1000), col (X (10 + n)).dv r = N.dv (rowOf n h r)
  de : ∀ n : ℕ, col (X n).de = N.de
  ei : ∀ n : ℕ, col (X n).ei = N.ei
  er : ∀ n : ℕ, col (X n).er = N.er
  kk : ∀ n : ℕ, mat (X n).kk = N.K
  w1 : ∀ n : ℕ, mat (X n).w1 = N.W1
  wa : ∀ n : ℕ, mat (X n).wa = N.Wa
  we : ∀ n : ℕ, mat (X n).we = N.We
  w2 : ∀ n : ℕ, mat (X n).w2 = N.W2
  wp : ∀ n : ℕ, mat (X n).wp = N.Wp

variable {X : ℕ → In Ideal} {N : Net}

/-- After the ten blocks of the first phase the accumulator holds the gathered messages. -/
theorem emAt_ten (hX : Fits X N) (e : Fin 1000) (d : Fin 128) : mat (emAt X 10) e d = N.gath e d :=
  sum_of_blocks (fun n => mat (emAt X n) e d) (fun n => N.H n e * ∑ k, N.x n k * N.W1 k d) (pay1_at e d) fun n h => by
    simp only [emAt, pay5_at, hX.x n h, hX.h0 n h, hX.w1 n]

/-- Scaled, they are the edges' messages. -/
theorem emF_mat (hX : Fits X N) : mat (emF X) = N.em :=
  funext fun e => funext fun d => by
    rw [emF, pay6_at, emAt_ten hX, hX.de]; rfl

/-- After the ten blocks of the second phase the accumulator holds the edges' features. -/
theorem efAt_ten (hX : Fits X N) : mat (efAt X 10) = N.ef :=
  funext fun e => funext fun d =>
    sum_of_blocks (fun n => mat (efAt X n) e d) (fun n => N.alpha n e * N.M n e * N.x1 n d) (pay2_at e d) fun n h => by
      simp only [efAt, pay7_at, hX.h1 n h, hX.m1 n h, hX.dv n h, hX.wa (10 + n), hX.kk 0, emF_mat hX]
      rfl

/-- Mixed, they are what is sent back to the nodes. -/
theorem gF_mat (hX : Fits X N) : mat (gF X) = N.g :=
  funext fun e => funext fun d => by
    rw [gF, pay8_at, efAt_ten hX, hX.kk, hX.we, hX.w2]; rfl

/-- After the ten blocks of the third phase the accumulator holds the summed features. -/
theorem caAt_ten (hX : Fits X N) : mat (caAt X 10) 0 = N.ca :=
  funext fun d =>
    sum_of_blocks (fun n => mat (caAt X n) 0 d) (fun n => N.x2 n d) (pay3_at d) fun n h => by
      simp only [caAt, pay11_at, hX.m2 n h, gF_mat hX]
      rfl

/-- The kept rows are the nodes' features. -/
theorem x2F_mat (hX : Fits X N) : mat (x2F X) = N.x2 :=
  funext fun n => funext fun d => by
    have hb : n.val / 1000 < 10 := by omega
    have e := pay10_at (X (20 + n.val / 1000)).mm (gF X) ⟨n.val % 1000, Nat.mod_lt _ (by norm_num)⟩ d
    rw [hX.m2 _ hb, gF_mat hX] at e
    have hr : rowOf (n.val / 1000) hb ⟨n.val % 1000, Nat.mod_lt _ (by norm_num)⟩ = n :=
      Fin.ext (Nat.div_add_mod n.val 1000)
    rw [hr] at e
    refine Eq.trans (congrArg (k0_pay10 (X (20 + n.val / 1000)).mm (gF X)) (funext fun a => ?_)) e
    match a with
    | ⟨0, _⟩ => rfl
    | ⟨1, _⟩ => rfl

/-- The stored row is the network's result. -/
theorem pooledF_at (hX : Fits X N) (d : Fin 128) : mat (pooledF X) 0 d = N.out d := by
  rw [pooledF, pay12_at, x2F_mat hX, caAt_ten hX, hX.ei, hX.er, hX.wp]
  rfl

end Cert.Mega

end
-- ==== Proof.Mega.RefScores.lean ====
/- The reference's stages up to the attention's scores, as the network's formulas. -/
module

public import proofs.«01_k».proof.Proof.Gen.ReferenceIdeal.Read
public import proofs.«01_k».proof.Proof.Mega.Payload

@[expose] public section

noncomputable section

namespace Cert.Mega

open Idealize.ShloMosaic Idealize.ShloMosaic.TcCoe
open Cert.ReferenceIdeal Cert.ReferenceIdeal.Read
open scoped BigOperators

variable (x0 : (⟨S10000x128, .f32⟩ : BufTy).Contents (Elt Ideal)) (x1 : (⟨S10000x1000, .f32⟩ : BufTy).Contents (Elt Ideal))
  (x2 : (⟨S1000x128, .f32⟩ : BufTy).Contents (Elt Ideal)) (x3 : (⟨S10000x1000, .f32⟩ : BufTy).Contents (Elt Ideal))
  (x4 : (⟨S10000, .f32⟩ : BufTy).Contents (Elt Ideal)) (x5 : (⟨S1000, .f32⟩ : BufTy).Contents (Elt Ideal))
  (x6 x7 : (⟨S10000, .f32⟩ : BufTy).Contents (Elt Ideal))
  (x8 x9 x10 x11 x12 : (⟨S128x128, .f32⟩ : BufTy).Contents (Elt Ideal))

/-- The network whose arguments are these thirteen arrays. -/
def netOf : Net where
  x := mat x0
  H := mat x1
  K := mat x2
  M := mat x3
  dv := vec x4
  de := vec x5
  ei := vec x6
  er := vec x7
  W1 := mat x8
  Wa := mat x9
  We := mat x10
  W2 := mat x11
  Wp := mat x12

/-- The largest entry of a row, as the reference takes it. -/
theorem rowMax_at {a b : ℕ} (x : FVec Ideal ⟨2, ![a, b]⟩ .f32) (h : (⟨2, ![a, b]⟩ : Shape).ReducesTo [1] ⟨1, ![a]⟩)
    (hu : 0 < (⟨0, ![]⟩ : Shape).numel) (n : Fin a) :
    Host.reduce FloatOps.maximumf x (constant (F := Ideal) ⟨0, ![]⟩ .f32 0xFF800000#32) h hu (ix1 n)
      = Finset.univ.fold max ⊥ (fun e => x (ix2 n e)) := by
  pointwise
  rw [ofBits_bot]

/-- The largest entry of a vector, as the reference takes it. -/
theorem vecMax_at {a : ℕ} (x : FVec Ideal ⟨1, ![a]⟩ .f32) (h : (⟨1, ![a]⟩ : Shape).ReducesTo [0] ⟨0, ![]⟩)
    (hu : 0 < (⟨0, ![]⟩ : Shape).numel) (i : (⟨0, ![]⟩ : Shape).Idx) :
    Host.reduce FloatOps.maximumf x (constant (F := Ideal) ⟨0, ![]⟩ .f32 0xFF800000#32) h hu i
      = Finset.univ.fold max ⊥ (fun e => x (ix1 e)) := by
  pointwise
  rw [ofBits_bot]

/-- The root of 128, as the reference takes it. -/
theorem root_value : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num)]

/-- The number of nodes, as the reference writes it. -/
theorem count_value : Ideal.ofBits .f32 0x461C4000#32 = ((10000 : ℝ) : EReal) := by
  simp [Ideal.ofBits, Ideal.ieee, -EReal.coe_mul]; norm_num

/-- The edges' messages. -/
theorem v5_at (e : Fin 1000) (d : Fin 128) : val_main_v5 (F := Ideal) x0 x1 x5 x8 (ix2 e d) = (netOf x0 x1 x2 x3 x4 x5 x6 x7 x8 x9 x10 x11 x12).em e d := by
  pointwise [val_main_v5, val_main_v4, val_main_v3, val_main_v2, val_main_v1, val_main_v0]
  rfl

/-- The nodes' features after the first convolution. -/
theorem v10_at (n : Fin 10000) (d : Fin 128) : val_main_v10 (F := Ideal) x0 x1 x4 x5 x8 (ix2 n d) = (netOf x0 x1 x2 x3 x4 x5 x6 x7 x8 x9 x10 x11 x12).x1 n d := by
  pointwise [val_main_v10, val_main_v9, val_main_v8, val_main_v7, val_main_v6, val_main_call0_v0, val_main_call0_cst]
  simp only [v5_at x0 x1 x2 x3 x4 x5 x6 x7 x8 x9 x10 x11 x12]
  rfl

/-- The attention's scores. -/
theorem v16_at (n : Fin 10000) (e : Fin 1000) : val_main_v16 (F := Ideal) x0 x1 x2 x4 x5 x8 x9 (ix2 n e)
    = (∑ d, (∑ k, (netOf x0 x1 x2 x3 x4 x5 x6 x7 x8 x9 x10 x11 x12).x1 n k * (netOf x0 x1 x2 x3 x4 x5 x6 x7 x8 x9 x10 x11 x12).Wa k d) * (netOf x0 x1 x2 x3 x4 x5 x6 x7 x8 x9 x10 x11 x12).K e d) * (((Real.sqrt 128)⁻¹ : ℝ) : EReal) := by
  pointwise [val_main_v16, val_main_v15, val_main_v14, val_main_cst, val_main_v13, val_main_v12, val_main_v11]
  simp only [v10_at x0 x1 x2 x3 x4 x5 x6 x7 x8 x9 x10 x11 x12, root_value, mul_inv_root]
  rfl

/-- The largest score of a row. -/
theorem v17_at (n : Fin 10000) : val_main_v17 (F := Ideal) x0 x1 x2 x4 x5 x8 x9 (ix1 n)
    = Finset.univ.fold max ⊥ (fun e => val_main_v16 (F := Ideal) x0 x1 x2 x4 x5 x8 x9 (ix2 n e)) := by
  unfold val_main_v17
  exact rowMax_at _ _ _ _

end Cert.Mega

end
-- ==== Proof.Mega.Blocks.lean ====
/- The blocks the grid points read are the arguments, cut into blocks of rows. -/
module

public import proofs.«01_k».proof.Proof.Mega.Run
public import proofs.«01_k».proof.Proof.Mega.Holds
public import proofs.«01_k».proof.Proof.Mega.RefScores
public import Idealize.ShloMosaic.Lib.Pipeline.ValueKit

@[expose] public section

noncomputable section

namespace Cert.Mega

open Idealize.ShloMosaic Idealize.ShloMosaic.TcCoe
open Cert.KernelIdeal Cert.KernelIdeal.Gen

variable (m : (ℓ : Loc nD τ sig) → Buf (Elt Ideal) ℓ)

/-- The network a device's arguments are. -/
def netAt (c : Dev nD) : Net :=
  netOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- The block each window holds at a point. -/
theorem index_at : ∀ t : Fin cfg0.N,
    win0_0.index t = ![min t.val 9, 0]
    ∧ win0_1.index t = ![if t.val < 20 then t.val % 10 else 9, 0]
    ∧ win0_2.index t = ![if 10 ≤ t.val then t.val % 10 else 9, 0]
    ∧ win0_3.index t = ![if 10 ≤ t.val ∧ t.val < 20 then t.val % 10 else 9, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] :=
  (by decide +kernel : ∀ t : Fin grid0.N, _)

/-- The point with number `n`. -/
theorem pt_mod (n : ℕ) : (pt n).val = n % 30 := rfl

/-- The node features' block at point `t` starts at row `1000 n`, where `n` is its block number. -/
theorem x_at (c : Dev nD) (n : ℕ) (h : n < 10) (t : Fin cfg0.N) (ht : min t.val 9 = n) (r : Fin 1000) (k : Fin 128) :
    iblk m c 0 t (ix2 r k) = m ((c : Thread nD τ).loc main_arg0) (ix2 (rowOf n h r) k) := by
  have hi := (index_at t).1
  rw [ht] at hi
  unfold rowOf
  blk_ext [iblk, V, hi]

/-- Likewise for the incidence matrix. -/
theorem h_at (c : Dev nD) (n : ℕ) (h : n < 10) (t : Fin cfg0.N) (ht : (if t.val < 20 then t.val % 10 else 9) = n)
    (r : Fin 1000) (k : Fin 1000) :
    iblk m c 1 t (ix2 r k) = m ((c : Thread nD τ).loc main_arg1) (ix2 (rowOf n h r) k) := by
  have hi := (index_at t).2.1
  rw [ht] at hi
  unfold rowOf
  blk_ext [iblk, V, hi]

/-- Likewise for the attention mask. -/
theorem m_at (c : Dev nD) (n : ℕ) (h : n < 10) (t : Fin cfg0.N) (ht : (if 10 ≤ t.val then t.val % 10 else 9) = n)
    (r : Fin 1000) (k : Fin 1000) :
    iblk m c 2 t (ix2 r k) = m ((c : Thread nD τ).loc main_arg3) (ix2 (rowOf n h r) k) := by
  have hi := (index_at t).2.2.1
  rw [ht] at hi
  unfold rowOf
  blk_ext [iblk, V, hi]

/-- The region finds the edges' scales as a column. -/
theorem v0_at (c : Dev nD) (r : Fin 1000) :
    V m c main_v0 (ix2 r (0 : Fin 1)) = m ((c : Thread nD τ).loc main_arg5) (ix1 r) := by
  change StableHlo.after (hostOps0 (F := Ideal)) (fun b => m (c, b)) (Proc.tc.devRef main_v0) (ix2 r (0 : Fin 1)) = _
  entry_read
  pointwise

/-- The region finds the nodes' scales as a column. -/
theorem v1_at (c : Dev nD) (r : Fin 10000) :
    V m c main_v1 (ix2 r (0 : Fin 1)) = m ((c : Thread nD τ).loc main_arg4) (ix1 r) := by
  change StableHlo.after (hostOps0 (F := Ideal)) (fun b => m (c, b)) (Proc.tc.devRef main_v1) (ix2 r (0 : Fin 1)) = _
  entry_read
  pointwise

/-- The region finds the inner weights as a column. -/
theorem v2_at (c : Dev nD) (r : Fin 10000) :
    V m c main_v2 (ix2 r (0 : Fin 1)) = m ((c : Thread nD τ).loc main_arg6) (ix1 r) := by
  change StableHlo.after (hostOps0 (F := Ideal)) (fun b => m (c, b)) (Proc.tc.devRef main_v2) (ix2 r (0 : Fin 1)) = _
  entry_read
  pointwise

/-- The region finds the outer weights as a column. -/
theorem v3_at (c : Dev nD) (r : Fin 10000) :
    V m c main_v3 (ix2 r (0 : Fin 1)) = m ((c : Thread nD τ).loc main_arg7) (ix1 r) := by
  change StableHlo.after (hostOps0 (F := Ideal)) (fun b => m (c, b)) (Proc.tc.devRef main_v3) (ix2 r (0 : Fin 1)) = _
  entry_read
  pointwise

/-- The nodes' scales are cut into blocks of rows like the node features. -/
theorem dv_at (c : Dev nD) (n : ℕ) (h : n < 10) (t : Fin cfg0.N)
    (ht : (if 10 ≤ t.val ∧ t.val < 20 then t.val % 10 else 9) = n) (r : Fin 1000) :
    iblk m c 3 t (ix2 r (0 : Fin 1)) = m ((c : Thread nD τ).loc main_arg4) (ix1 (rowOf n h r)) := by
  have hi := (index_at t).2.2.2.1
  rw [ht] at hi
  refine Eq.trans ?_ (v1_at m c _)
  unfold iblk rowOf
  generalize V m c main_v1 = A
  blk_ext [hi]

/-- The edges' scales are read whole. -/
theorem de_at (c : Dev nD) (t : Fin cfg0.N) (r : Fin 1000) :
    iblk m c 4 t (ix2 r (0 : Fin 1)) = m ((c : Thread nD τ).loc main_arg5) (ix1 r) := by
  refine Eq.trans ?_ (v0_at m c _)
  unfold iblk
  generalize V m c main_v0 = A
  blk_ext [index_at t]

/-- The inner weights are read whole. -/
theorem ei_at (c : Dev nD) (t : Fin cfg0.N) (r : Fin 10000) :
    iblk m c 5 t (ix2 r (0 : Fin 1)) = m ((c : Thread nD τ).loc main_arg6) (ix1 r) := by
  refine Eq.trans ?_ (v2_at m c _)
  unfold iblk
  generalize V m c main_v2 = A
  blk_ext [index_at t]

/-- The outer weights are read whole. -/
theorem er_at (c : Dev nD) (t : Fin cfg0.N) (r : Fin 10000) :
    iblk m c 6 t (ix2 r (0 : Fin 1)) = m ((c : Thread nD τ).loc main_arg7) (ix1 r) := by
  refine Eq.trans ?_ (v3_at m c _)
  unfold iblk
  generalize V m c main_v3 = A
  blk_ext [index_at t]

/-- The edges' keys are read whole. -/
theorem kk_at (c : Dev nD) (t : Fin cfg0.N) (r : Fin 1000) (k : Fin 128) :
    iblk m c 7 t (ix2 r k) = m ((c : Thread nD τ).loc main_arg2) (ix2 r k) := by
  blk_ext [iblk, V, index_at t]

/-- So are the five weight matrices. -/
theorem weights_at (c : Dev nD) (t : Fin cfg0.N) (r k : Fin 128) :
    iblk m c 8 t (ix2 r k) = m ((c : Thread nD τ).loc main_arg8) (ix2 r k)
    ∧ iblk m c 9 t (ix2 r k) = m ((c : Thread nD τ).loc main_arg9) (ix2 r k)
    ∧ iblk m c 10 t (ix2 r k) = m ((c : Thread nD τ).loc main_arg10) (ix2 r k)
    ∧ iblk m c 11 t (ix2 r k) = m ((c : Thread nD τ).loc main_arg11) (ix2 r k)
    ∧ iblk m c 12 t (ix2 r k) = m ((c : Thread nD τ).loc main_arg12) (ix2 r k) := by
  refine ⟨?_, ?_, ?_, ?_, ?_⟩ <;> blk_ext [iblk, V, index_at t]

theorem Xat_x (c : Dev nD) (n : ℕ) (r : Fin 1000) (k : Fin 128) : mat (Xat m c n).x r k = iblk m c 0 (pt n) (ix2 r k) := rfl
theorem Xat_h (c : Dev nD) (n : ℕ) (r k : Fin 1000) : mat (Xat m c n).h r k = iblk m c 1 (pt n) (ix2 r k) := rfl
theorem Xat_mm (c : Dev nD) (n : ℕ) (r k : Fin 1000) : mat (Xat m c n).mm r k = iblk m c 2 (pt n) (ix2 r k) := rfl
theorem Xat_dv (c : Dev nD) (n : ℕ) (r : Fin 1000) : col (Xat m c n).dv r = iblk m c 3 (pt n) (ix2 r (0 : Fin 1)) := rfl

/-- What the points read are the rows of the network the device's arguments are. -/
theorem fits (c : Dev nD) : Fits (Xat m c) (netAt m c) where
  x n h r := funext fun k => by
    rw [Xat_x, x_at m c n h (pt n) (by rw [pt_mod]; omega)]; rfl
  h0 n h r := funext fun k => by
    rw [Xat_h, h_at m c n h (pt n) (by rw [pt_mod]; split <;> omega)]; rfl
  h1 n h r := funext fun k => by
    rw [Xat_h, h_at m c n h (pt (10 + n)) (by rw [pt_mod]; split <;> omega)]; rfl
  m1 n h r := funext fun k => by
    rw [Xat_mm, m_at m c n h (pt (10 + n)) (by rw [pt_mod]; split <;> omega)]; rfl
  m2 n h r := funext fun k => by
    rw [Xat_mm, m_at m c n h (pt (20 + n)) (by rw [pt_mod]; split <;> omega)]; rfl
  dv n h r := by
    rw [Xat_dv, dv_at m c n h (pt (10 + n)) (by rw [pt_mod]; split <;> omega)]; rfl
  de n := funext fun r => de_at m c (pt n) r
  ei n := funext fun r => ei_at m c (pt n) r
  er n := funext fun r => er_at m c (pt n) r
  kk n := funext fun r => funext fun k => kk_at m c (pt n) r k
  w1 n := funext fun r => funext fun k => (weights_at m c (pt n) r k).1
  wa n := funext fun r => funext fun k => (weights_at m c (pt n) r k).2.1
  we n := funext fun r => funext fun k => (weights_at m c (pt n) r k).2.2.1
  w2 n := funext fun r => funext fun k => (weights_at m c (pt n) r k).2.2.2.1
  wp n := funext fun r => funext fun k => (weights_at m c (pt n) r k).2.2.2.2

end Cert.Mega

end
-- ==== Proof.Mega.RefAttention.lean ====
/- The reference's attention, as the network's formula. -/
module

public import proofs.«01_k».proof.Proof.Mega.RefScores

@[expose] public section

noncomputable section

namespace Cert.Mega

open Idealize.ShloMosaic Idealize.ShloMosaic.TcCoe
open Cert.ReferenceIdeal Cert.ReferenceIdeal.Read
open scoped BigOperators

variable (x0 : (⟨S10000x128, .f32⟩ : BufTy).Contents (Elt Ideal)) (x1 : (⟨S10000x1000, .f32⟩ : BufTy).Contents (Elt Ideal))
  (x2 : (⟨S1000x128, .f32⟩ : BufTy).Contents (Elt Ideal)) (x3 : (⟨S10000x1000, .f32⟩ : BufTy).Contents (Elt Ideal))
  (x4 : (⟨S10000, .f32⟩ : BufTy).Contents (Elt Ideal)) (x5 : (⟨S1000, .f32⟩ : BufTy).Contents (Elt Ideal))
  (x6 x7 : (⟨S10000, .f32⟩ : BufTy).Contents (Elt Ideal))
  (x8 x9 x10 x11 x12 : (⟨S128x128, .f32⟩ : BufTy).Contents (Elt Ideal))

/-- The sum of a row, as the reference takes it. -/
theorem rowSum_at {a b : ℕ} (x : FVec Ideal ⟨2, ![a, b]⟩ .f32) (h : (⟨2, ![a, b]⟩ : Shape).ReducesTo [1] ⟨1, ![a]⟩)
    (hu : 0 < (⟨0, ![]⟩ : Shape).numel) (n : Fin a) :
    Host.reduceAdd x (constant (F := Ideal) ⟨0, ![]⟩ .f32 0x00000000#32) h hu (ix1 n) = ∑ e, x (ix2 n e) := by
  pointwise

/-- The greater of minus infinity and a number is the number. -/
theorem max_bot (y : EReal) : max (Ideal.ofBits .f32 0xFF800000#32) y = y := by
  rw [ofBits_bot]; exact max_eq_right bot_le

/-- A row's largest score, put against every edge. -/
theorem v21_at (n : Fin 10000) (e : Fin 1000) : val_main_v21 (F := Ideal) x0 x1 x2 x4 x5 x8 x9 (ix2 n e)
    = Finset.univ.fold max ⊥ (fun e => val_main_v16 (F := Ideal) x0 x1 x2 x4 x5 x8 x9 (ix2 n e)) := by
  have hi : idx_main_v20 (idx_main_v21 (ix2 n e)) = ix1 n := funext fun a => match a with
    | ⟨0, _⟩ => rfl
  rw [val_main_v21_apply, val_main_v20_apply, hi, val_main_v19_apply, val_main_v18_apply, val_main_cst_1_apply]
  exact (max_bot _).trans (v17_at x0 x1 x2 x4 x5 x8 x9 n)

/-- A row's sum of exponentials. -/
theorem v24_at (n : Fin 10000) : val_main_v24 (F := Ideal) x0 x1 x2 x4 x5 x8 x9 (ix1 n)
    = ∑ e, val_main_v23 (F := Ideal) x0 x1 x2 x4 x5 x8 x9 (ix2 n e) := by
  unfold val_main_v24
  exact rowSum_at _ _ _ _

/-- An exponential, from which the row's largest score was subtracted. -/
theorem v23_at (n : Fin 10000) (e : Fin 1000) : val_main_v23 (F := Ideal) x0 x1 x2 x4 x5 x8 x9 (ix2 n e)
    = Ideal.exp (val_main_v16 (F := Ideal) x0 x1 x2 x4 x5 x8 x9 (ix2 n e)
        - Finset.univ.fold max ⊥ (fun e => val_main_v16 (F := Ideal) x0 x1 x2 x4 x5 x8 x9 (ix2 n e))) := by
  pointwise [val_main_v23, val_main_v22]
  rw [v21_at]

/-- The nodes' attention over the edges. -/
theorem v27_at (n : Fin 10000) (e : Fin 1000) : val_main_v27 (F := Ideal) x0 x1 x2 x4 x5 x8 x9 (ix2 n e) = (netOf x0 x1 x2 x3 x4 x5 x6 x7 x8 x9 x10 x11 x12).alpha n e := by
  pointwise [val_main_v27, val_main_v26, val_main_v25]
  simp only [v24_at, v23_at, v16_at x0 x1 x2 x3 x4 x5 x6 x7 x8 x9 x10 x11 x12]
  rfl

end Cert.Mega

end
-- ==== Proof.Mega.Reference.lean ====
/- What the reference computes, as the network's formulas. -/
module

public import proofs.«01_k».proof.Proof.Mega.RefAttention

@[expose] public section

noncomputable section

namespace Cert.Mega

open Idealize.ShloMosaic Idealize.ShloMosaic.TcCoe
open Cert.ReferenceIdeal Cert.ReferenceIdeal.Read
open scoped BigOperators

variable (x0 : (⟨S10000x128, .f32⟩ : BufTy).Contents (Elt Ideal)) (x1 : (⟨S10000x1000, .f32⟩ : BufTy).Contents (Elt Ideal))
  (x2 : (⟨S1000x128, .f32⟩ : BufTy).Contents (Elt Ideal)) (x3 : (⟨S10000x1000, .f32⟩ : BufTy).Contents (Elt Ideal))
  (x4 : (⟨S10000, .f32⟩ : BufTy).Contents (Elt Ideal)) (x5 : (⟨S1000, .f32⟩ : BufTy).Contents (Elt Ideal))
  (x6 x7 : (⟨S10000, .f32⟩ : BufTy).Contents (Elt Ideal))
  (x8 x9 x10 x11 x12 : (⟨S128x128, .f32⟩ : BufTy).Contents (Elt Ideal))

/-- The nodes' features gathered by attention into the edges. -/
theorem v30_at (e : Fin 1000) (d : Fin 128) : val_main_v30 (F := Ideal) x0 x1 x2 x3 x4 x5 x8 x9 (ix2 e d) = (netOf x0 x1 x2 x3 x4 x5 x6 x7 x8 x9 x10 x11 x12).ef e d := by
  pointwise [val_main_v30, val_main_v29, val_main_v28]
  simp only [v27_at x0 x1 x2 x3 x4 x5 x6 x7 x8 x9 x10 x11 x12, v10_at x0 x1 x2 x3 x4 x5 x6 x7 x8 x9 x10 x11 x12]
  rfl

/-- The edges' features sent back to the nodes. -/
theorem v33_at (e : Fin 1000) (d : Fin 128) : val_main_v33 (F := Ideal) x0 x1 x2 x3 x4 x5 x8 x9 x10 x11 (ix2 e d) = (netOf x0 x1 x2 x3 x4 x5 x6 x7 x8 x9 x10 x11 x12).g e d := by
  pointwise [val_main_v33, val_main_v32, val_main_v31]
  simp only [v30_at x0 x1 x2 x3 x4 x5 x6 x7 x8 x9 x10 x11 x12]
  rfl

/-- The nodes' features after the second convolution. -/
theorem v35_at (n : Fin 10000) (d : Fin 128) : val_main_v35 (F := Ideal) x0 x1 x2 x3 x4 x5 x8 x9 x10 x11 (ix2 n d) = (netOf x0 x1 x2 x3 x4 x5 x6 x7 x8 x9 x10 x11 x12).x2 n d := by
  pointwise [val_main_v35, val_main_v34, val_main_call1_v0, val_main_call1_cst]
  simp only [v33_at x0 x1 x2 x3 x4 x5 x6 x7 x8 x9 x10 x11 x12]
  rfl

/-- The nodes' scores. -/
theorem v40_at (n : Fin 10000) : val_main_v40 (F := Ideal) x0 x1 x2 x3 x4 x5 x8 x9 x10 x11 x12 (ix1 n) = (netOf x0 x1 x2 x3 x4 x5 x6 x7 x8 x9 x10 x11 x12).s n := by
  pointwise [val_main_v40, val_main_v39, val_main_v38, val_main_v37, val_main_v36, val_main_cst_3, val_main_cst_4]
  simp only [v35_at x0 x1 x2 x3 x4 x5 x6 x7 x8 x9 x10 x11 x12, count_value, ← mul_inv_count]
  unfold Net.s score
  refine Finset.sum_congr rfl fun d _ => congrArg _ (Finset.sum_congr rfl fun k _ => ?_)
  exact mul_comm _ _

/-- The largest score under the first mask. -/
theorem v42_at (i : S_.Idx) : val_main_v42 (F := Ideal) x0 x1 x2 x3 x4 x5 x6 x8 x9 x10 x11 x12 i
    = Finset.univ.fold max ⊥ (fun n => val_main_v41 (F := Ideal) x0 x1 x2 x3 x4 x5 x6 x8 x9 x10 x11 x12 (ix1 n)) := by
  unfold val_main_v42
  exact vecMax_at _ _ _ _

/-- The largest score under the second mask. -/
theorem v53_at (i : S_.Idx) : val_main_v53 (F := Ideal) x0 x1 x2 x3 x4 x5 x7 x8 x9 x10 x11 x12 i
    = Finset.univ.fold max ⊥ (fun n => val_main_v52 (F := Ideal) x0 x1 x2 x3 x4 x5 x7 x8 x9 x10 x11 x12 (ix1 n)) := by
  unfold val_main_v53
  exact vecMax_at _ _ _ _

theorem v41_at (n : Fin 10000) : val_main_v41 (F := Ideal) x0 x1 x2 x3 x4 x5 x6 x8 x9 x10 x11 x12 (ix1 n) = (netOf x0 x1 x2 x3 x4 x5 x6 x7 x8 x9 x10 x11 x12).s n * (netOf x0 x1 x2 x3 x4 x5 x6 x7 x8 x9 x10 x11 x12).ei n := by
  pointwise [val_main_v41]
  rw [v40_at x0 x1 x2 x3 x4 x5 x6 x7 x8 x9 x10 x11 x12]
  rfl

theorem v52_at (n : Fin 10000) : val_main_v52 (F := Ideal) x0 x1 x2 x3 x4 x5 x7 x8 x9 x10 x11 x12 (ix1 n) = (netOf x0 x1 x2 x3 x4 x5 x6 x7 x8 x9 x10 x11 x12).s n * (netOf x0 x1 x2 x3 x4 x5 x6 x7 x8 x9 x10 x11 x12).er n := by
  pointwise [val_main_v52]
  rw [v40_at x0 x1 x2 x3 x4 x5 x6 x7 x8 x9 x10 x11 x12]
  rfl

/-- The weights under the first mask. -/
theorem v51_at (n : Fin 10000) : val_main_v51 (F := Ideal) x0 x1 x2 x3 x4 x5 x6 x8 x9 x10 x11 x12 (ix1 n)
    = soft (fun n => (netOf x0 x1 x2 x3 x4 x5 x6 x7 x8 x9 x10 x11 x12).s n * (netOf x0 x1 x2 x3 x4 x5 x6 x7 x8 x9 x10 x11 x12).ei n) n := by
  pointwise [val_main_v51, val_main_v50, val_main_v49, val_main_v48, val_main_v47, val_main_v46, val_main_v45, val_main_v44, val_main_v43, val_main_cst_6, val_main_cst_7]
  simp only [ofBits_bot, v42_at, bot_sup_eq, v41_at x0 x1 x2 x3 x4 x5 x6 x7 x8 x9 x10 x11 x12]
  rfl

/-- The weights under the second mask. -/
theorem v62_at (n : Fin 10000) : val_main_v62 (F := Ideal) x0 x1 x2 x3 x4 x5 x7 x8 x9 x10 x11 x12 (ix1 n)
    = soft (fun n => (netOf x0 x1 x2 x3 x4 x5 x6 x7 x8 x9 x10 x11 x12).s n * (netOf x0 x1 x2 x3 x4 x5 x6 x7 x8 x9 x10 x11 x12).er n) n := by
  pointwise [val_main_v62, val_main_v61, val_main_v60, val_main_v59, val_main_v58, val_main_v57, val_main_v56, val_main_v55, val_main_v54, val_main_cst_9, val_main_cst_10]
  simp only [ofBits_bot, v53_at, bot_sup_eq, v52_at x0 x1 x2 x3 x4 x5 x6 x7 x8 x9 x10 x11 x12]
  rfl

/-- The reference's result is the network's. -/
theorem v65_at (d : Fin 128) : val_main_v65 (F := Ideal) x0 x1 x2 x3 x4 x5 x6 x7 x8 x9 x10 x11 x12 (ix1 d) = (netOf x0 x1 x2 x3 x4 x5 x6 x7 x8 x9 x10 x11 x12).out d := by
  pointwise [val_main_v65, val_main_v64, val_main_v63]
  simp only [v51_at x0 x1 x2 x3 x4 x5 x6 x7 x8 x9 x10 x11 x12, v62_at x0 x1 x2 x3 x4 x5 x6 x7 x8 x9 x10 x11 x12, v35_at x0 x1 x2 x3 x4 x5 x6 x7 x8 x9 x10 x11 x12]
  exact (pool_eq _ _ _ _ (fun n d => nodeRow_nonneg _ _ d) d).symm

end Cert.Mega

end
-- ==== Proof.Mega.Result.lean ====
/- The kernel's result and the reference's are the same row. -/
module

public import proofs.«01_k».proof.Proof.Mega.Blocks
public import proofs.«01_k».proof.Proof.Mega.Reference
public import proofs.«01_k».proof.Proof.Mega.Frames
public import Idealize.ShloMosaic.Lib.Claim

@[expose] public section

noncomputable section

namespace Cert.Mega

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The last point writes the whole result row back. -/
theorem arr_out (c : Dev nD) : (dats m 0 c).arrAt 13 cfg0.N = pooledF (Xat m c) := by
  refine (dats m 0 c).arrAt_eq_of_after_last 13 ⟨29, by decide⟩ (by decide +kernel) _ fun j => ?_
  rw [after_13]
  blk_simp [index_at ⟨29, by decide⟩]
  rfl

/-- The result the device's arguments give. -/
def outVec (c : Dev nD) : Vec Ideal S128 .f32 := fun i => (netAt m c).out (i 0)

/-- The reshape after the region leaves that result. -/
theorem tail_out (c : Dev nD) : Pipeline.afterTail₀ cfgs (dats m) 0 (V0 m) [hostOps1] c main_v5 = outVec m c := by
  unfold Pipeline.afterTail₀
  change StableHlo.after (hostOps1 (F := Ideal)) _ (Proc.tc.devRef main_v5) = _
  have h := Pipeline.withArrays_arr spec0 launch0.win.arr_inj c (V0 m c) (fun w => (dats m 0 c).arrAt w cfg0.N) 13
  generalize Pipeline.withArrays spec0 c (V0 m c) (fun w => (dats m 0 c).arrAt w cfg0.N) = B at h
  entry_read
  rw [arr_out] at h
  funext i
  obtain ⟨d, rfl⟩ : ∃ d, i = ix1 d := ⟨i 0, (ix1_eta i).symm⟩
  pointwise
  exact (congrFun h (ix2 0 d)).trans (pooledF_at (fits m c) d)

/-- Every execution of the kernel leaves that result. -/
theorem run_value : θ_run (defs (F := Ideal)) (onTc (τ := τ) (main (F := Ideal))) ⟨m, fun _ => 0, ρ⟩ (fun r => ∀ c : Dev nD,
      r.2.mem ((c.tc : Thread nD τ).loc main_v5) = outVec m c) := by
  run_from ((θ_run defs _ _).mono (fun _ h => h.1) (run_main m ρ))
  exact tail_out m c

/-- From agreeing arguments, every execution of either program ends in the same result. -/
theorem algebraic : Cert.algebraic_KernelIdeal_ReferenceIdeal := by
  intro m ρ m' ρ' _ hagree
  refine ⟨fun c => outVec m c, ?_, ?_⟩
  · exact (θ_run _ _ _).mono (fun _ h c => ⟨h.1 c, h.2.1 c⟩) (θ_run_and (run_value m ρ) (frame m ρ))
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v65_eq _).trans ?_
    obtain ⟨h0, h1, h2, h3, h4, h5, h6, h7, h8, h9, h10, h11, h12⟩ := hagree c
    funext i
    obtain ⟨d, rfl⟩ : ∃ d, i = ix1 d := ⟨i 0, (ix1_eta i).symm⟩
    refine (v65_at _ _ _ _ _ _ _ _ _ _ _ _ _ d).trans ?_
    refine congrArg (fun N => Net.out N d) (?_ : _ = netAt m c)
    unfold netAt
    rw [← h0, ← h1, ← h2, ← h3, ← h4, ← h5, ← h6, ← h7, ← h8, ← h9, ← h10, ← h11, ← h12]

end Cert.Mega

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Mega.Printed
public import proofs.«01_k».proof.Proof.Mega.Frames
public import proofs.«01_k».proof.Proof.Mega.Result
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mega.frame_printed, Cert.Mega.frame_named, Cert.Mega.frame_reference, Cert.Mega.preserves_names,
  Cert.Mega.algebraic⟩

end Cert.Proof

end
